-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_rows [hPre_finite_rows : Cert.Pre_finite_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_rows [hPre_finite_rows : Cert.Pre_finite_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_rows [hKernel8Ideal : Cert.Kernel8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_rows m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_rows [hReference8Ideal : Cert.Reference8Ideal.Facts] [hPre_finite_rows : Cert.Pre_finite_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_rows m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_rows [hKernel8Ideal : Cert.Kernel8Ideal.Facts] [hReference8Ideal : Cert.Reference8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_rows m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v9) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_rows (hKernel8Ideal := hKernel8Ideal) (hPre_finite_rows := hPre_finite_rows)
    ∧ quiescent_Reference8Ideal (hReference8Ideal := hReference8Ideal)
    ∧ quiescent_Reference8Ideal_pre_finite_rows (hReference8Ideal := hReference8Ideal) (hPre_finite_rows := hPre_finite_rows)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_rows (hKernel8Ideal := hKernel8Ideal) (hReference8Ideal := hReference8Ideal) (hPre_finite_rows := hPre_finite_rows)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_rows.lean ====
abbrev S8x1024 : Shape := ⟨2, ![8, 1024]⟩
abbrev S8x3072 : Shape := ⟨2, ![8, 3072]⟩
abbrev S1024x384 : Shape := ⟨2, ![1024, 384]⟩
abbrev S_ : Shape := ⟨0, ![]⟩
abbrev S8x384 : Shape := ⟨2, ![8, 384]⟩

class Facts : Prop where
  bcast_S_S8x1024 : S_.BroadcastsInDim S8x1024 (![] : Fin 0 → Fin S8x1024.rank)
  slices_S8x3072_S8x384_0_0 : S8x3072.Slices ![0, 0] S8x384
  bcast_S_S8x384 : S_.BroadcastsInDim S8x384 (![] : Fin 0 → Fin S8x384.rank)

variable [Facts]

def fn {F : FTy → Type} [FloatOps F] (main_arg0 : FVec F S8x1024 .f32) (main_arg1 : FVec F S8x3072 .f32) (main_arg2 : FVec F S1024x384 .f32) (main_arg3 : FVec F S1024x384 .f32) (main_arg4 : FVec F S1024x384 .f32) : IVec S8x1024 1 × IVec S8x384 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S8x384 .f32 := (extractStridedSlice S8x384 ![0, 0] · slices_S8x3072_S8x384_0_0) main_arg1
  let main_v4 : FVec F S8x384 .f32 := Host.absf main_v3
  let main_cst_0 : FVec F S_ .f32 := constant S_ .f32 0x7F800000#32
  let main_v5 : FVec F S8x384 .f32 := broadcastInDim S8x384 ![] bcast_S_S8x384 main_cst_0
  let main_v6 : IVec S8x384 1 := cmpf .olt main_v4 main_v5
  (main_v2, main_v6)
-- ==== Kernel.lean ====
abbrev S72x4096x128 : Shape := ⟨3, ![72, 4096, 128]⟩
abbrev S9216x1024 : Shape := ⟨2, ![9216, 1024]⟩
abbrev S8x128 : Shape := ⟨2, ![8, 128]⟩
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S72x512x128 : Shape := ⟨3, ![72, 512, 128]⟩
abbrev S512x1024 : Shape := ⟨2, ![512, 1024]⟩
abbrev S1x512x128 : Shape := ⟨3, ![1, 512, 128]⟩
abbrev S512x128 : Shape := ⟨2, ![512, 128]⟩
abbrev S512x9216 : Shape := ⟨2, ![512, 9216]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S72x4096x128, .bf16⟩
  | .hbm, ⟨1, _⟩ => ⟨S9216x1024, .bf16⟩
  | .hbm, ⟨2, _⟩ => ⟨S8x128, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S8x1024, .f32⟩
  | .local _ .vmem, ⟨0, _⟩ => ⟨S72x512x128, .bf16⟩
  | .local _ .vmem, ⟨1, _⟩ => ⟨S72x512x128, .bf16⟩
  | .local _ .vmem, ⟨2, _⟩ => ⟨S8x128, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S9216x1024, .bf16⟩
  | _, _ => ⟨S72x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S72x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S72x4096x128 : Shape := ⟨3, ![72, 4096, 128]⟩
abbrev S9216x1024 : Shape := ⟨2, ![9216, 1024]⟩
abbrev S8x128 : Shape := ⟨2, ![8, 128]⟩
abbrev S4096x1024 : Shape := ⟨2, ![4096, 1024]⟩
abbrev S1x1024 : Shape := ⟨2, ![1, 1024]⟩
abbrev S1024x9216 : Shape := ⟨2, ![1024, 9216]⟩
abbrev S4096x72x128 : Shape := ⟨3, ![4096, 72, 128]⟩
abbrev S4096x9216 : Shape := ⟨2, ![4096, 9216]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S72x4096x128, .bf16⟩
  | .hbm, ⟨1, _⟩ => ⟨S9216x1024, .bf16⟩
  | .hbm, ⟨2, _⟩ => ⟨S8x128, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S9216x1024, .f32⟩
  | .hbm, ⟨8, _⟩ => ⟨S1024x9216, .f32⟩
  | .hbm, ⟨9, _⟩ => ⟨S72x4096x128, .f32⟩
  | .hbm, ⟨10, _⟩ => ⟨S4096x72x128, .f32⟩
  | .hbm, ⟨11, _⟩ => ⟨S4096x9216, .f32⟩
  | .hbm, ⟨12, _⟩ => ⟨S_, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x9216, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S5x1024, .f32⟩
  | .hbm, ⟨77, _⟩ => ⟨S8x1024, .f32⟩
  | _, _ => ⟨S72x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S72x4096x128 : Shape := ⟨3, ![72, 4096, 128]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S8x1024x1152 : Shape := ⟨3, ![8, 1024, 1152]⟩
abbrev S1024x2048 : Shape := ⟨2, ![1024, 2048]⟩
abbrev S18x2048x128 : Shape := ⟨3, ![18, 2048, 128]⟩
abbrev S2x1024x1152 : Shape := ⟨3, ![2, 1024, 1152]⟩
abbrev S1x2048x128 : Shape := ⟨3, ![1, 2048, 128]⟩
abbrev S2048x128 : Shape := ⟨2, ![2048, 128]⟩
abbrev S2048x2304 : Shape := ⟨2, ![2048, 2304]⟩
abbrev S1024x2304 : Shape := ⟨2, ![1024, 2304]⟩
abbrev S1024x1152 : Shape := ⟨2, ![1024, 1152]⟩
abbrev S1x1024x1152 : Shape := ⟨3, ![1, 1024, 1152]⟩

abbrev nBuf : Space → Nat
  | .hbm => 30
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S72x4096x128, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S1024x4096, .bf16⟩
  | .hbm, ⟨29, _⟩ => ⟨S8x1024x1152, .f32⟩
  | .local _ .vmem, ⟨0, _⟩ => ⟨S1024x2048, .bf16⟩
  | .local _ .vmem, ⟨1, _⟩ => ⟨S1024x2048, .bf16⟩
  | .local _ .vmem, ⟨2, _⟩ => ⟨S18x2048x128, .bf16⟩
  | .local _ .vmem, ⟨3, _⟩ => ⟨S18x2048x128, .bf16⟩
  | .local _ .vmem, ⟨4, _⟩ => ⟨S2x1024x1152, .f32⟩
  | .local _ .vmem, ⟨5, _⟩ => ⟨S2x1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let v41 : BitVec 32 := Scalar.extui v40
  let c0_i32_38 : BitVec 32 := 0#32
  let v42 : BitVec 1 := Scalar.cmpi .ne v41 c0_i32_38
  v42

def k0_cond2 (i : grid0.Coords) : BitVec 1 :=
  let arg1 : BitVec 32 := BitVec.ofNat 32 (i 1).val
  let c0_i32_39 : BitVec 32 := 0#32
  let v43 : BitVec 1 := Scalar.cmpi .sgt arg1 c0_i32_39
  let v44 : BitVec 32 := Scalar.extui v43
  let c0_i32_40 : BitVec 32 := 0#32
  let v45 : BitVec 1 := Scalar.cmpi .ne v44 c0_i32_40
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S18x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S1x1024 : Shape := ⟨2, ![1, 1024]⟩
abbrev S72x4096x128 : Shape := ⟨3, ![72, 4096, 128]⟩
abbrev S_ : Shape := ⟨0, ![]⟩
abbrev S4096 : Shape := ⟨1, ![4096]⟩
abbrev S4096x1 : Shape := ⟨2, ![4096, 1]⟩
abbrev S4096x72x128 : Shape := ⟨3, ![4096, 72, 128]⟩
abbrev S4096x9216 : Shape := ⟨2, ![4096, 9216]⟩
abbrev S1024x9216 : Shape := ⟨2, ![1024, 9216]⟩
abbrev S9216x1024 : Shape := ⟨2, ![9216, 1024]⟩
abbrev S1024x8x1152 : Shape := ⟨3, ![1024, 8, 1152]⟩
abbrev S8x1024x1152 : Shape := ⟨3, ![8, 1024, 1152]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S72x4096x128, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S72x4096x128, .f32⟩
  | .hbm, ⟨28, _⟩ => ⟨S4096x72x128, .f32⟩
  | .hbm, ⟨29, _⟩ => ⟨S4096x9216, .f32⟩
  | .hbm, ⟨30, _⟩ => ⟨S_, .f32⟩
  | .hbm, ⟨31, _⟩ => ⟨S1024x9216, .f32⟩
  | .hbm, ⟨32, _⟩ => ⟨S4096x9216, .f32⟩
  | .hbm, ⟨33, _⟩ => ⟨S9216x1024, .f32⟩
  | .hbm, ⟨34, _⟩ => ⟨S1024x9216, .f32⟩
  | .hbm, ⟨35, _⟩ => ⟨S1024x8x1152, .f32⟩
  | .hbm, ⟨36, _⟩ => ⟨S8x1024x1152, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S9216x1024 : Shape := ⟨2, ![9216, 1024]⟩
abbrev S1 : Shape := ⟨1, ![1]⟩
abbrev S_ : Shape := ⟨0, ![]⟩
abbrev S4096 : Shape := ⟨1, ![4096]⟩
abbrev S4096x1 : Shape := ⟨2, ![4096, 1]⟩
abbrev S72x4096x128 : Shape := ⟨3, ![72, 4096, 128]⟩
abbrev S1024x1024 : Shape := ⟨2, ![1024, 1024]⟩
abbrev S2304x1024 : Shape := ⟨2, ![2304, 1024]⟩
abbrev S18x1024x128 : Shape := ⟨3, ![18, 1024, 128]⟩
abbrev S1024x2304 : Shape := ⟨2, ![1024, 2304]⟩
abbrev S1024x128 : Shape := ⟨2, ![1024, 128]⟩
abbrev S1x1024x128 : Shape := ⟨3, ![1, 1024, 128]⟩
abbrev S18x4096x128 : Shape := ⟨3, ![18, 4096, 128]⟩

abbrev nBuf : Space → Nat
  | .hbm => 30
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S72x4096x128, .f32⟩
  | .hbm, ⟨29, _⟩ => ⟨S18x4096x128, .f32⟩
  | .local _ .vmem, ⟨0, _⟩ => ⟨S1024x1024, .bf16⟩
  | .local _ .vmem, ⟨1, _⟩ => ⟨S1024x1024, .bf16⟩
  | .local _ .vmem, ⟨2, _⟩ => ⟨S2304x1024, .bf16⟩
  | .local _ .vmem, ⟨3, _⟩ => ⟨S18x1024x128, .f32⟩
  | .local _ .vmem, ⟨4, _⟩ => ⟨S18x1024x128, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S18x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S1x1024 : Shape := ⟨2, ![1, 1024]⟩
abbrev S9216x1024 : Shape := ⟨2, ![9216, 1024]⟩
abbrev S1024x9216 : Shape := ⟨2, ![1024, 9216]⟩
abbrev S_ : Shape := ⟨0, ![]⟩
abbrev S4096 : Shape := ⟨1, ![4096]⟩
abbrev S4096x1 : Shape := ⟨2, ![4096, 1]⟩
abbrev S4096x9216 : Shape := ⟨2, ![4096, 9216]⟩
abbrev S4096x72x128 : Shape := ⟨3, ![4096, 72, 128]⟩
abbrev S72x4096x128 : Shape := ⟨3, ![72, 4096, 128]⟩
abbrev S18x4096x128 : Shape := ⟨3, ![18, 4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S9216x1024, .f32⟩
  | .hbm, ⟨6, _⟩ => ⟨S1024x9216, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x9216, .f32⟩
  | .hbm, ⟨30, _⟩ => ⟨S4096x72x128, .f32⟩
  | .hbm, ⟨31, _⟩ => ⟨S72x4096x128, .f32⟩
  | .hbm, ⟨32, _⟩ => ⟨S18x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S9216x1024 : Shape := ⟨2, ![9216, 1024]⟩
abbrev S72x4096x128 : Shape := ⟨3, ![72, 4096, 128]⟩
abbrev S2 : Shape := ⟨1, ![2]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S2304x1024 : Shape := ⟨2, ![2304, 1024]⟩
abbrev S1 : Shape := ⟨1, ![1]⟩
abbrev S18x1024x128 : Shape := ⟨3, ![18, 1024, 128]⟩
abbrev S1024x2304 : Shape := ⟨2, ![1024, 2304]⟩
abbrev S1024x128 : Shape := ⟨2, ![1024, 128]⟩
abbrev S1x1024x128 : Shape := ⟨3, ![1, 1024, 128]⟩

abbrev nBuf : Space → Nat
  | .hbm => 30
  | .vmem => 6
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S72x4096x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S72x4096x128, .f32⟩
  | .local _ .vmem, ⟨0, _⟩ => ⟨S1024x1024, .bf16⟩
  | .local _ .vmem, ⟨1, _⟩ => ⟨S1024x1024, .bf16⟩
  | .local _ .vmem, ⟨2, _⟩ => ⟨S2304x1024, .bf16⟩
  | .local _ .vmem, ⟨3, _⟩ => ⟨S2304x1024, .bf16⟩
  | .local _ .vmem, ⟨4, _⟩ => ⟨S18x1024x128, .f32⟩
  | .local _ .vmem, ⟨5, _⟩ => ⟨S18x1024x128, .f32⟩
  | .local _ .smem, ⟨0, _⟩ => ⟨S2, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1x1024 : Shape := ⟨2, ![1, 1024]⟩
abbrev S9216x1024 : Shape := ⟨2, ![9216, 1024]⟩
abbrev S72x4096x128 : Shape := ⟨3, ![72, 4096, 128]⟩
abbrev S1024x9216 : Shape := ⟨2, ![1024, 9216]⟩
abbrev S_ : Shape := ⟨0, ![]⟩
abbrev S4096 : Shape := ⟨1, ![4096]⟩
abbrev S4096x1 : Shape := ⟨2, ![4096, 1]⟩
abbrev S4096x9216 : Shape := ⟨2, ![4096, 9216]⟩
abbrev S4096x72x128 : Shape := ⟨3, ![4096, 72, 128]⟩
abbrev S18x4096x128 : Shape := ⟨3, ![18, 4096, 128]⟩
abbrev S36x4096x128 : Shape := ⟨3, ![36, 4096, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S72x4096x128, .f32⟩
  | .hbm, ⟨6, _⟩ => ⟨S9216x1024, .f32⟩
  | .hbm, ⟨7, _⟩ => ⟨S1024x9216, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x9216, .f32⟩
  | .hbm, ⟨31, _⟩ => ⟨S4096x72x128, .f32⟩
  | .hbm, ⟨32, _⟩ => ⟨S72x4096x128, .f32⟩
  | .hbm, ⟨33, _⟩ => ⟨S18x4096x128, .f32⟩
  | .hbm, ⟨34, _⟩ => ⟨S36x4096x128, .f32⟩
  | .hbm, ⟨35, _⟩ => ⟨S18x4096x128, .f32⟩
  | .hbm, ⟨36, _⟩ => ⟨S72x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S9216x1024 : Shape := ⟨2, ![9216, 1024]⟩
abbrev S72x4096x128 : Shape := ⟨3, ![72, 4096, 128]⟩
abbrev S1 : Shape := ⟨1, ![1]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S2304x1024 : Shape := ⟨2, ![2304, 1024]⟩
abbrev S18x1024x128 : Shape := ⟨3, ![18, 1024, 128]⟩
abbrev S1024x2304 : Shape := ⟨2, ![1024, 2304]⟩
abbrev S1024x128 : Shape := ⟨2, ![1024, 128]⟩
abbrev S1x1024x128 : Shape := ⟨3, ![1, 1024, 128]⟩

abbrev nBuf : Space → Nat
  | .hbm => 30
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S72x4096x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S72x4096x128, .f32⟩
  | .local _ .vmem, ⟨0, _⟩ => ⟨S1024x1024, .bf16⟩
  | .local _ .vmem, ⟨1, _⟩ => ⟨S1024x1024, .bf16⟩
  | .local _ .vmem, ⟨2, _⟩ => ⟨S2304x1024, .bf16⟩
  | .local _ .vmem, ⟨3, _⟩ => ⟨S18x1024x128, .f32⟩
  | .local _ .vmem, ⟨4, _⟩ => ⟨S18x1024x128, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S18x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1x1024 : Shape := ⟨2, ![1, 1024]⟩
abbrev S9216x1024 : Shape := ⟨2, ![9216, 1024]⟩
abbrev S72x4096x128 : Shape := ⟨3, ![72, 4096, 128]⟩
abbrev S1024x9216 : Shape := ⟨2, ![1024, 9216]⟩
abbrev S_ : Shape := ⟨0, ![]⟩
abbrev S4096 : Shape := ⟨1, ![4096]⟩
abbrev S4096x1 : Shape := ⟨2, ![4096, 1]⟩
abbrev S4096x9216 : Shape := ⟨2, ![4096, 9216]⟩
abbrev S4096x72x128 : Shape := ⟨3, ![4096, 72, 128]⟩
abbrev S54x4096x128 : Shape := ⟨3, ![54, 4096, 128]⟩
abbrev S18x4096x128 : Shape := ⟨3, ![18, 4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9216x1024, .bf16⟩
  | .hbm, ⟨5, _⟩ => ⟨S72x4096x128, .f32⟩
  | .hbm, ⟨6, _⟩ => ⟨S9216x1024, .f32⟩
  | .hbm, ⟨7, _⟩ => ⟨S1024x9216, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x9216, .f32⟩
  | .hbm, ⟨31, _⟩ => ⟨S4096x72x128, .f32⟩
  | .hbm, ⟨32, _⟩ => ⟨S72x4096x128, .f32⟩
  | .hbm, ⟨33, _⟩ => ⟨S54x4096x128, .f32⟩
  | .hbm, ⟨34, _⟩ => ⟨S18x4096x128, .f32⟩
  | .hbm, ⟨35, _⟩ => ⟨S72x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel6.lean ====
abbrev S4x1024x1152 : Shape := ⟨3, ![4, 1024, 1152]⟩
abbrev S3x1024x1152 : Shape := ⟨3, ![3, 1024, 1152]⟩
abbrev S1024x1152 : Shape := ⟨2, ![1024, 1152]⟩
abbrev S1 : Shape := ⟨1, ![1]⟩
abbrev S1x256x1152 : Shape := ⟨3, ![1, 256, 1152]⟩
abbrev S256x1152 : Shape := ⟨2, ![256, 1152]⟩

abbrev nBuf : Space → Nat
  | .hbm => 9
  | .vmem => 22
  | .smem => 1
  | _ => 0

abbrev bufTy : (tb : Table) → Fin (tcTables nBuf tb) → BufTy
  | .hbm, ⟨0, _⟩ => ⟨S4x1024x1152, .bf16⟩
  | .hbm, ⟨1, _⟩ => ⟨S3x1024x1152, .bf16⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S1x256x1152, .bf16⟩
  | .local _ .vmem, ⟨1, _⟩ => ⟨S1x256x1152, .bf16⟩
  | .local _ .vmem, ⟨2, _⟩ => ⟨S1x256x1152, .bf16⟩
  | .local _ .vmem, ⟨3, _⟩ => ⟨S1x256x1152, .bf16⟩
  | .local _ .vmem, ⟨4, _⟩ => ⟨S1x256x1152, .bf16⟩
  | .local _ .vmem, ⟨5, _⟩ => ⟨S1x256x1152, .bf16⟩
  | .local _ .vmem, ⟨6, _⟩ => ⟨S1x256x1152, .bf16⟩
  | .local _ .vmem, ⟨7, _⟩ => ⟨S1x256x1152, .bf16⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | .local _ .vmem, ⟨18, _⟩ => ⟨S256x1152, .f32⟩
  | .local _ .vmem, ⟨19, _⟩ => ⟨S256x1152, .f32⟩
  | .local _ .vmem, ⟨20, _⟩ => ⟨S256x1152, .f32⟩
  | .local _ .vmem, ⟨21, _⟩ => ⟨S256x1152, .f32⟩
  | .local _ .smem, ⟨0, _⟩ => ⟨S1, .i32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x1024x1152 : Shape := ⟨3, ![4, 1024, 1152]⟩
abbrev S3x1024x1152 : Shape := ⟨3, ![3, 1024, 1152]⟩
abbrev S1024x1152 : Shape := ⟨2, ![1024, 1152]⟩
abbrev S1x1024x1152 : Shape := ⟨3, ![1, 1024, 1152]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x1152, .bf16⟩
  | .hbm, ⟨1, _⟩ => ⟨S3x1024x1152, .bf16⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1x1024x1152, .bf16⟩
  | .hbm, ⟨6, _⟩ => ⟨S4x1024x1152, .bf16⟩
  | .hbm, ⟨7, _⟩ => ⟨S4x1024x1152, .f32⟩
  | .hbm, ⟨8, _⟩ => ⟨S_, .f32⟩
  | .hbm, ⟨9, _⟩ => ⟨S1024x1152, .f32⟩
  | .hbm, ⟨10, _⟩ => ⟨S_, .f32⟩
  | .hbm, ⟨11, _⟩ => ⟨S1024x1152, .f32⟩
  | .hbm, ⟨12, _⟩ => ⟨S1024x1152, .f32⟩
  | .hbm, ⟨13, _⟩ => ⟨S_, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S1024x1152, .f32⟩
  | .hbm, ⟨21, _⟩ => ⟨S_, .f32⟩
  | .hbm, ⟨22, _⟩ => ⟨S1024x1152, .f32⟩
  | .hbm, ⟨23, _⟩ => ⟨S1024x1152, .f32⟩
  | .hbm, ⟨24, _⟩ => ⟨S1024x1152, .f32⟩
  | .hbm, ⟨25, _⟩ => ⟨S_, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S1024x1152, .f32⟩
  | .hbm, ⟨36, _⟩ => ⟨S_, .f32⟩
  | .hbm, ⟨37, _⟩ => ⟨S1024x1152, .f32⟩
  | .hbm, ⟨38, _⟩ => ⟨S1024x1152, .f32⟩
  | .hbm, ⟨39, _⟩ => ⟨S1024x1152, .f32⟩
  | .hbm, ⟨40, _⟩ => ⟨S_, .f32⟩
  | .hbm, ⟨41, _⟩ => ⟨S1024x1152, .f32⟩
  | .hbm, ⟨42, _⟩ => ⟨S1024x1152, .f32⟩
  | _, _ => ⟨S4x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel7.lean ====
abbrev S4x128x1024 : Shape := ⟨3, ![4, 128, 1024]⟩
abbrev S3x128x1024 : Shape := ⟨3, ![3, 128, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 11
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .smem, ⟨0, _⟩ => ⟨S1, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference7Ideal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S3x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .f32⟩
  | .hbm, ⟨6, _⟩ => ⟨S4x128x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel8.lean ====
abbrev S8x1024 : Shape := ⟨2, ![8, 1024]⟩
abbrev S8x3072 : Shape := ⟨2, ![8, 3072]⟩
abbrev S1024x384 : Shape := ⟨2, ![1024, 384]⟩
abbrev S1 : Shape := ⟨1, ![1]⟩
abbrev S_ : Shape := ⟨0, ![]⟩
abbrev S1024x8 : Shape := ⟨2, ![1024, 8]⟩
abbrev S1024x128 : Shape := ⟨2, ![1024, 128]⟩
abbrev S128x3072 : Shape := ⟨2, ![128, 3072]⟩
abbrev S128x384 : Shape := ⟨2, ![128, 384]⟩

abbrev nBuf : Space → Nat
  | .hbm => 25
  | .vmem => 9
  | .smem => 1
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S128x3072, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S1024x384, .f32⟩
  | .local _ .vmem, ⟨0, _⟩ => ⟨S1024x128, .f32⟩
  | .local _ .vmem, ⟨1, _⟩ => ⟨S128x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .smem, ⟨0, _⟩ => ⟨S1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_c_1 : Ref sig .tc := ⟨.hbm, 18, rfl⟩
abbrev main_call2_v0 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v4_2 : Ref sig .tc := ⟨.hbm, 23, rfl⟩
abbrev main_v4_3 : Ref sig .tc := ⟨.hbm, 24, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8x1024 : Shape := ⟨2, ![8, 1024]⟩
abbrev S8x3072 : Shape := ⟨2, ![8, 3072]⟩
abbrev S1024x384 : Shape := ⟨2, ![1024, 384]⟩
abbrev S_ : Shape := ⟨0, ![]⟩
abbrev S8x384 : Shape := ⟨2, ![8, 384]⟩
abbrev S384x1024 : Shape := ⟨2, ![384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x384, .f32⟩
  | .hbm, ⟨15, _⟩ => ⟨S8x384, .f32⟩
  | .hbm, ⟨16, _⟩ => ⟨S384x1024, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | .hbm, ⟨43, _⟩ => ⟨S1024x384, .f32⟩
  | .hbm, ⟨44, _⟩ => ⟨S_, .f32⟩
  | .hbm, ⟨45, _⟩ => ⟨S1024x384, .f32⟩
  | .hbm, ⟨46, _⟩ => ⟨S1024x384, .f32⟩
  | .hbm, ⟨47, _⟩ => ⟨S1024x384, .f32⟩
  | .hbm, ⟨48, _⟩ => ⟨S_, .f32⟩
  | .hbm, ⟨49, _⟩ => ⟨S1024x384, .f32⟩
  | .hbm, ⟨50, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel10.lean ====
abbrev S8x1024x1152 : Shape := ⟨3, ![8, 1024, 1152]⟩
abbrev S1 : Shape := ⟨1, ![1]⟩
abbrev S4x1024x1152 : Shape := ⟨3, ![4, 1024, 1152]⟩
abbrev S1x1024x1152 : Shape := ⟨3, ![1, 1024, 1152]⟩
abbrev S1024x1152 : Shape := ⟨2, ![1024, 1152]⟩

abbrev nBuf : Space → Nat
  | .hbm => 2
  | .vmem => 4
  | .smem => 1
  | _ => 0

abbrev bufTy : (tb : Table) → Fin (tcTables nBuf tb) → BufTy
  | .hbm, ⟨0, _⟩ => ⟨S8x1024x1152, .f32⟩
  | .hbm, ⟨1, _⟩ => ⟨S4x1024x1152, .bf16⟩
  | .local _ .vmem, ⟨0, _⟩ => ⟨S1x1024x1152, .f32⟩
  | .local _ .vmem, ⟨1, _⟩ => ⟨S1x1024x1152, .f32⟩
  | .local _ .vmem, ⟨2, _⟩ => ⟨S1x1024x1152, .bf16⟩
  | .local _ .vmem, ⟨3, _⟩ => ⟨S1x1024x1152, .bf16⟩
  | .local _ .smem, ⟨0, _⟩ => ⟨S1, .i32⟩
  | _, _ => ⟨S8x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0 : Index := 0#32
  let v2 : BitVec 32 := pf.at 0 (Rect.unit (s := S1) ![0] S1.size inb_S1_S1_0) numel1_S1
  let v3 : BitVec 32 := Scalar.subi v1 v2
  let c0_i32 : BitVec 32 := 0#32
  let c0_i32_0 : BitVec 32 := 0#32
  ![v3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference10Ideal.lean ====
abbrev S8x1024x1152 : Shape := ⟨3, ![8, 1024, 1152]⟩
abbrev S4x2x1024x1152 : Shape := ⟨4, ![4, 2, 1024, 1152]⟩
abbrev S4x1x1024x1152 : Shape := ⟨4, ![4, 1, 1024, 1152]⟩
abbrev S4x1024x1152 : Shape := ⟨3, ![4, 1024, 1152]⟩

abbrev nBuf : Space → Nat
  | .hbm => 5
  | .vmem => 0
  | .smem => 0
  | _ => 0

abbrev bufTy : (tb : Table) → Fin (tcTables nBuf tb) → BufTy
  | .hbm, ⟨0, _⟩ => ⟨S8x1024x1152, .f32⟩
  | .hbm, ⟨1, _⟩ => ⟨S4x2x1024x1152, .f32⟩
  | .hbm, ⟨2, _⟩ => ⟨S4x1x1024x1152, .f32⟩
  | .hbm, ⟨3, _⟩ => ⟨S4x1024x1152, .f32⟩
  | .hbm, ⟨4, _⟩ => ⟨S4x1024x1152, .bf16⟩
  | _, _ => ⟨S8x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.InputGradProduct.lean ====
module

public import proofs.«01_k».proof.Proof.Gen.KernelIdeal.Frame
public import Idealize.ShloMosaic.Lib.Pipeline.ValueKit

/-!
# The gradient of the normalised rows

The backward kernel of the combined projection multiplies a tile of 512 rows of the packed gradient by the transposed
weight. The packed gradient is stored as 72 column blocks of 128 lanes; the kernel lays them side by side and contracts
over all 9216 columns at once. This module says what one element of that product is.
-/

@[expose] public section

set_option maxRecDepth 16384

noncomputable section

open Idealize.ShloMosaic Idealize.ShloMosaic.TcCoe Idealize.SL.Sem

namespace Cert.KernelIdeal.Value

open Cert.KernelIdeal Cert.KernelIdeal.Gen

/-- Column block `n` of a packed tile, as a matrix of rows and lanes. -/
def piece (B : Vec Ideal S72x512x128 .bf16) (n : Fin 72) : FVec Ideal S512x128 .bf16 :=
  shapeCast S512x128 (View.ld B (Rect.unit (s := S72x512x128) ![n.val, 0, 0] S1x512x128.size (by have := n.isLt; exact fun a => by fin_cases a <;> simp <;> omega))) shapeCasts_S1x512x128_S512x128

theorem piece_apply (B : Vec Ideal S72x512x128 .bf16) (n : Fin 72) (k : Fin 512) (l : Fin 128) :
    piece B n (ix2 k l) = B (ix3 n k l) := by
  have e (v : FVec Ideal S1x512x128 .bf16) : shapeCast S512x128 v shapeCasts_S1x512x128_S512x128 (ix2 k l) = v (ix3 0 k l) := by
    pointwise
    try blk_ext []
  unfold piece
  rw [e]
  exact View.ld_unit_apply_of (S := S72x512x128) B _ _ _ _ _ fun a => match a with
    | ⟨0, _⟩ => rfl
    | ⟨1, _⟩ => (Nat.zero_add _).symm
    | ⟨2, _⟩ => (Nat.zero_add _).symm

theorem packs (B : Vec Ideal S72x512x128 .bf16) :
    Shape.Concatenates ((List.ofFn fun n : Fin 72 => (⟨S512x128, piece B n⟩ : (s : Shape) × (s.Idx → Ideal .bf16))).map (·.1)) S512x9216 1 :=
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x9216_d1

/-- The 72 column blocks side by side. -/
def packed (B : Vec Ideal S72x512x128 .bf16) : FVec Ideal S512x9216 .bf16 :=
  concatenate S512x9216 1 (List.ofFn fun n : Fin 72 => (⟨S512x128, piece B n⟩ : (s : Shape) × (s.Idx → Ideal .bf16)))
    (packs B)

/-- Column `s` of the side-by-side matrix is lane `s % 128` of block `s / 128`. -/
theorem packed_apply (B : Vec Ideal S72x512x128 .bf16) (k : Fin 512) (s : Fin 9216) :
    packed B (ix2 k s) = B (ix3 ⟨s / 128, by omega⟩ k ⟨s % 128, by omega⟩) := by
  unfold packed
  rw [concatenate_ofFn_apply (t := S512x9216) 1 (piece B) _ rfl 128 rfl (ix2 k s) ⟨s / 128, by omega⟩ rfl (ix2 k ⟨s % 128, by omega⟩) rfl]
  · exact piece_apply B _ _ _
  intro b hb
  match b with
  | ⟨0, _⟩ => rfl
  | ⟨1, _⟩ => exact absurd rfl hb

/-- The product, as the kernel spells it. -/
abbrev dh (B : Vec Ideal S72x512x128 .bf16) (W : FVec Ideal S9216x1024 .bf16) : FVec Ideal S512x1024 .f32 :=
  k0_pay76
    (k0_pay6 (View.ld B (Rect.unit ![0, 0, 0] ![1, 512, 128] inb_S72x512x128_S1x512x128_0_0_0)))
    (k0_pay7 (View.ld B (Rect.unit ![1, 0, 0] ![1, 512, 128] inb_S72x512x128_S1x512x128_1_0_0)))
    (k0_pay8 (View.ld B (Rect.unit ![2, 0, 0] ![1, 512, 128] inb_S72x512x128_S1x512x128_2_0_0)))
    (k0_pay9 (View.ld B (Rect.unit ![3, 0, 0] ![1, 512, 128] inb_S72x512x128_S1x512x128_3_0_0)))
    (k0_pay10 (View.ld B (Rect.unit ![4, 0, 0] ![1, 512, 128] inb_S72x512x128_S1x512x128_4_0_0)))
    (k0_pay11 (View.ld B (Rect.unit ![5, 0, 0] ![1, 512, 128] inb_S72x512x128_S1x512x128_5_0_0)))
    (k0_pay12 (View.ld B (Rect.unit ![6, 0, 0] ![1, 512, 128] inb_S72x512x128_S1x512x128_6_0_0)))
    (k0_pay13 (View.ld B (Rect.unit ![7, 0, 0] ![1, 512, 128] inb_S72x512x128_S1x512x128_7_0_0)))
    (k0_pay14 (View.ld B (Rect.unit ![8, 0, 0] ![1, 512, 128] inb_S72x512x128_S1x512x128_8_0_0)))
    (k0_pay15 (View.ld B (Rect.unit ![9, 0, 0] ![1, 512, 128] inb_S72x512x128_S1x512x128_9_0_0)))
    (k0_pay16 (View.ld B (Rect.unit ![10, 0, 0] ![1, 512, 128] inb_S72x512x128_S1x512x128_10_0_0)))
    (k0_pay17 (View.ld B (Rect.unit ![11, 0, 0] ![1, 512, 128] inb_S72x512x128_S1x512x128_11_0_0)))
    (k0_pay18 (View.ld B (Rect.unit ![12, 0, 0] ![1, 512, 128] inb_S72x512x128_S1x512x128_12_0_0)))
    (k0_pay19 (View.ld B (Rect.unit ![13, 0, 0] ![1, 512, 128] inb_S72x512x128_S1x512x128_13_0_0)))
    (k0_pay20 (View.ld B (Rect.unit ![14, 0, 0] ![1, 512, 128] inb_S72x512x128_S1x512x128_14_0_0)))
    (k0_pay21 (View.ld B (Rect.unit ![15, 0, 0] ![1, 512, 128] inb_S72x512x128_S1x512x128_15_0_0)))
    (k0_pay22 (View.ld B (Rect.unit ![16, 0, 0] ![1, 512, 128] inb_S72x512x128_S1x512x128_16_0_0)))
    (k0_pay23 (View.ld B (Rect.unit ![17, 0, 0] ![1, 512, 128] inb_S72x512x128_S1x512x128_17_0_0)))
    (k0_pay24 (View.ld B (Rect.unit ![18, 0, 0] ![1, 512, 128] inb_S72x512x128_S1x512x128_18_0_0)))
    (k0_pay25 (View.ld B (Rect.unit ![19, 0, 0] ![1, 512, 128] inb_S72x512x128_S1x512x128_19_0_0)))
    (k0_pay26 (View.ld B (Rect.unit ![20, 0, 0] ![1, 512, 128] inb_S72x512x128_S1x512x128_20_0_0)))
    (k0_pay27 (View.ld B (Rect.unit ![21, 0, 0] ![1, 512, 128] inb_S72x512x128_S1x512x128_21_0_0)))
    (k0_pay28 (View.ld B (Rect.unit ![22, 0, 0] ![1, 512, 128] inb_S72x512x128_S1x512x128_22_0_0)))
    (k0_pay29 (View.ld B (Rect.unit ![23, 0, 0] ![1, 512, 128] inb_S72x512x128_S1x512x128_23_0_0)))
    (k0_pay30 (View.ld B (Rect.unit ![24, 0, 0] ![1, 512, 128] inb_S72x512x128_S1x512x128_24_0_0)))
    (k0_pay31 (View.ld B (Rect.unit ![25, 0, 0] ![1, 512, 128] inb_S72x512x128_S1x512x128_25_0_0)))
    (k0_pay32 (View.ld B (Rect.unit ![26, 0, 0] ![1, 512, 128] inb_S72x512x128_S1x512x128_26_0_0)))
    (k0_pay33 (View.ld B (Rect.unit ![27, 0, 0] ![1, 512, 128] inb_S72x512x128_S1x512x128_27_0_0)))
    (k0_pay34 (View.ld B (Rect.unit ![28, 0, 0] ![1, 512, 128] inb_S72x512x128_S1x512x128_28_0_0)))
    (k0_pay35 (View.ld B (Rect.unit ![29, 0, 0] ![1, 512, 128] inb_S72x512x128_S1x512x128_29_0_0)))
    (k0_pay36 (View.ld B (Rect.unit ![30, 0, 0] ![1, 512, 128] inb_S72x512x128_S1x512x128_30_0_0)))
    (k0_pay37 (View.ld B (Rect.unit ![31, 0, 0] ![1, 512, 128] inb_S72x512x128_S1x512x128_31_0_0)))
    (k0_pay38 (View.ld B (Rect.unit ![32, 0, 0] ![1, 512, 128] inb_S72x512x128_S1x512x128_32_0_0)))
    (k0_pay39 (View.ld B (Rect.unit ![33, 0, 0] ![1, 512, 128] inb_S72x512x128_S1x512x128_33_0_0)))
    (k0_pay40 (View.ld B (Rect.unit ![34, 0, 0] ![1, 512, 128] inb_S72x512x128_S1x512x128_34_0_0)))
    (k0_pay41 (View.ld B (Rect.unit ![35, 0, 0] ![1, 512, 128] inb_S72x512x128_S1x512x128_35_0_0)))
    (k0_pay42 (View.ld B (Rect.unit ![36, 0, 0] ![1, 512, 128] inb_S72x512x128_S1x512x128_36_0_0)))
    (k0_pay43 (View.ld B (Rect.unit ![37, 0, 0] ![1, 512, 128] inb_S72x512x128_S1x512x128_37_0_0)))
    (k0_pay44 (View.ld B (Rect.unit ![38, 0, 0] ![1, 512, 128] inb_S72x512x128_S1x512x128_38_0_0)))
    (k0_pay45 (View.ld B (Rect.unit ![39, 0, 0] ![1, 512, 128] inb_S72x512x128_S1x512x128_39_0_0)))
    (k0_pay46 (View.ld B (Rect.unit ![40, 0, 0] ![1, 512, 128] inb_S72x512x128_S1x512x128_40_0_0)))
    (k0_pay47 (View.ld B (Rect.unit ![41, 0, 0] ![1, 512, 128] inb_S72x512x128_S1x512x128_41_0_0)))
    (k0_pay48 (View.ld B (Rect.unit ![42, 0, 0] ![1, 512, 128] inb_S72x512x128_S1x512x128_42_0_0)))
    (k0_pay49 (View.ld B (Rect.unit ![43, 0, 0] ![1, 512, 128] inb_S72x512x128_S1x512x128_43_0_0)))
    (k0_pay50 (View.ld B (Rect.unit ![44, 0, 0] ![1, 512, 128] inb_S72x512x128_S1x512x128_44_0_0)))
    (k0_pay51 (View.ld B (Rect.unit ![45, 0, 0] ![1, 512, 128] inb_S72x512x128_S1x512x128_45_0_0)))
    (k0_pay52 (View.ld B (Rect.unit ![46, 0, 0] ![1, 512, 128] inb_S72x512x128_S1x512x128_46_0_0)))
    (k0_pay53 (View.ld B (Rect.unit ![47, 0, 0] ![1, 512, 128] inb_S72x512x128_S1x512x128_47_0_0)))
    (k0_pay54 (View.ld B (Rect.unit ![48, 0, 0] ![1, 512, 128] inb_S72x512x128_S1x512x128_48_0_0)))
    (k0_pay55 (View.ld B (Rect.unit ![49, 0, 0] ![1, 512, 128] inb_S72x512x128_S1x512x128_49_0_0)))
    (k0_pay56 (View.ld B (Rect.unit ![50, 0, 0] ![1, 512, 128] inb_S72x512x128_S1x512x128_50_0_0)))
    (k0_pay57 (View.ld B (Rect.unit ![51, 0, 0] ![1, 512, 128] inb_S72x512x128_S1x512x128_51_0_0)))
    (k0_pay58 (View.ld B (Rect.unit ![52, 0, 0] ![1, 512, 128] inb_S72x512x128_S1x512x128_52_0_0)))
    (k0_pay59 (View.ld B (Rect.unit ![53, 0, 0] ![1, 512, 128] inb_S72x512x128_S1x512x128_53_0_0)))
    (k0_pay60 (View.ld B (Rect.unit ![54, 0, 0] ![1, 512, 128] inb_S72x512x128_S1x512x128_54_0_0)))
    (k0_pay61 (View.ld B (Rect.unit ![55, 0, 0] ![1, 512, 128] inb_S72x512x128_S1x512x128_55_0_0)))
    (k0_pay62 (View.ld B (Rect.unit ![56, 0, 0] ![1, 512, 128] inb_S72x512x128_S1x512x128_56_0_0)))
    (k0_pay63 (View.ld B (Rect.unit ![57, 0, 0] ![1, 512, 128] inb_S72x512x128_S1x512x128_57_0_0)))
    (k0_pay64 (View.ld B (Rect.unit ![58, 0, 0] ![1, 512, 128] inb_S72x512x128_S1x512x128_58_0_0)))
    (k0_pay65 (View.ld B (Rect.unit ![59, 0, 0] ![1, 512, 128] inb_S72x512x128_S1x512x128_59_0_0)))
    (k0_pay66 (View.ld B (Rect.unit ![60, 0, 0] ![1, 512, 128] inb_S72x512x128_S1x512x128_60_0_0)))
    (k0_pay67 (View.ld B (Rect.unit ![61, 0, 0] ![1, 512, 128] inb_S72x512x128_S1x512x128_61_0_0)))
    (k0_pay68 (View.ld B (Rect.unit ![62, 0, 0] ![1, 512, 128] inb_S72x512x128_S1x512x128_62_0_0)))
    (k0_pay69 (View.ld B (Rect.unit ![63, 0, 0] ![1, 512, 128] inb_S72x512x128_S1x512x128_63_0_0)))
    (k0_pay70 (View.ld B (Rect.unit ![64, 0, 0] ![1, 512, 128] inb_S72x512x128_S1x512x128_64_0_0)))
    (k0_pay71 (View.ld B (Rect.unit ![65, 0, 0] ![1, 512, 128] inb_S72x512x128_S1x512x128_65_0_0)))
    (k0_pay72 (View.ld B (Rect.unit ![66, 0, 0] ![1, 512, 128] inb_S72x512x128_S1x512x128_66_0_0)))
    (k0_pay73 (View.ld B (Rect.unit ![67, 0, 0] ![1, 512, 128] inb_S72x512x128_S1x512x128_67_0_0)))
    (k0_pay74 (View.ld B (Rect.unit ![68, 0, 0] ![1, 512, 128] inb_S72x512x128_S1x512x128_68_0_0)))
    (k0_pay75 (View.ld B (Rect.unit ![69, 0, 0] ![1, 512, 128] inb_S72x512x128_S1x512x128_69_0_0)))
    (View.ld B (Rect.unit ![70, 0, 0] ![1, 512, 128] inb_S72x512x128_S1x512x128_70_0_0))
    (View.ld B (Rect.unit ![71, 0, 0] ![1, 512, 128] inb_S72x512x128_S1x512x128_71_0_0))
    W

theorem dh_eq (B : Vec Ideal S72x512x128 .bf16) (W : FVec Ideal S9216x1024 .bf16) :
    dh B W = matmul dot_S512x9216_S9216x1024_S512x1024_1_0_0_1_n_n none (packed B) W (constant S512x1024 .f32 0x00000000#32) := rfl

theorem dh_apply (B : Vec Ideal S72x512x128 .bf16) (W : FVec Ideal S9216x1024 .bf16) (k : Fin 512) (i : Fin 1024) :
    dh B W (ix2 k i) = ∑ s : Fin 9216, B (ix3 ⟨s / 128, by omega⟩ k ⟨s % 128, by omega⟩) * W (ix2 s i) := by
  have e (P : FVec Ideal S512x9216 .bf16) : matmul dot_S512x9216_S9216x1024_S512x1024_1_0_0_1_n_n none P W (constant S512x1024 .f32 0x00000000#32) (ix2 k i)
      = ∑ s : Fin 9216, P (ix2 k s) * W (ix2 s i) := by pointwise
  rw [dh_eq]
  refine (e _).trans (Finset.sum_congr rfl fun s _ => ?_)
  rw [packed_apply]

end Cert.KernelIdeal.Value

end
-- ==== Proof.InputGradTile.lean ====
module

public import proofs.«01_k».proof.Proof.InputGradProduct
public import Idealize.ShloMosaic.Lib.Pipeline.ValueKit
public import Idealize.ShloMosaic.Lib.WritesUnit
public import Idealize.ShloMosaic.Lib.VecWindow

/-! One grid point of the input gradient: what the weights' copy holds, the tile of the first result, and the rows the
point adds to the second result. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
variable (m : (ℓ : Loc nD τ sig) → Buf (Elt Ideal) ℓ)

/-- The norm's factor of a row. -/
theorem pay78_apply (x : Vec Ideal S512x1024 .f32) (k : Fin 512) : k0_pay78 x (ix2 k 0) = Ideal.rsqrt (Ideal.div (∑ l : Fin 1024, x (ix2 k l) * x (ix2 k l)) (Ideal.ofBits .f32 0x44800000#32) + Ideal.ofBits .f32 0x358637BD#32) := by
  unfold k0_pay78
  pointwise

/-- The normalised entry. -/
theorem pay79_apply (x : Vec Ideal S512x1024 .f32) (k : Fin 512) (i) : k0_pay79 x (ix2 k i) = x (ix2 k i) * k0_pay78 x (ix2 k 0) := by
  unfold k0_pay79
  generalize k0_pay78 x = r
  pointwise

/-- The row of the gain's gradient, one tile added. -/
theorem pay4_apply (D x : FVec Ideal S512x1024 .f32) (g a : Vec Ideal S1x1024 .f32) (i : Fin 1024) : k0_pay4 D g x a (ix2 0 i) = a (ix2 0 i) + ∑ k : Fin 512, D (ix2 k i) * x (ix2 k i) * g (ix2 0 i) := by
  unfold k0_pay4 k0_pay1
  pointwise

/-- The row of the scale's gradient, one tile added. -/
theorem pay3_apply (D x : FVec Ideal S512x1024 .f32) (g a : Vec Ideal S1x1024 .f32) (i : Fin 1024) : k0_pay3 D (k0_pay77 g) x a (ix2 0 i) = a (ix2 0 i) + ∑ k : Fin 512, D (ix2 k i) * x (ix2 k i) * g (ix2 0 i) := by
  unfold k0_pay3 k0_pay1 k0_pay77
  pointwise

/-- The row of the shift's gradient, one tile added. -/
theorem pay5_apply (D : FVec Ideal S512x1024 .f32) (a : Vec Ideal S1x1024 .f32) (i : Fin 1024) : k0_pay5 D a (ix2 0 i) = a (ix2 0 i) + ∑ k : Fin 512, D (ix2 k i) := by
  unfold k0_pay5
  pointwise

/-- The second result starts at zero. -/
theorem pay2_apply (j) : k0_pay2 (F := Ideal) j = 0 := by
  unfold k0_pay2
  pointwise

/-- The first point copies the weights. -/
theorem scA (c : Dev nD) (t : Fin cfg0.N) (h0 : t.val % 8 = 0) : (outsAt0 m c t.val t.isLt).2.2 = V m c main_arg1 := by
  rw [outsAt0_A m c t h0 h0]; frame_out
  funext j
  canon_tiles x h
  exact congrArg (V m c main_arg1) (show x = j from funext fun a => match a with | ⟨0, _⟩ => Fin.ext h0.symm | ⟨1, _⟩ => Fin.ext h1.symm)

/-- Later points keep the copy. -/
theorem scB (c : Dev nD) (t : Fin cfg0.N) (h0 : ¬ t.val % 8 = 0) : (outsAt0 m c t.val t.isLt).2.2 = (outsAt0 m c (t.val - 1) (Nat.lt_of_le_of_lt (Nat.sub_le _ _) t.isLt)).2.2 := by
  rw [outsAt0_B m c t h0 h0]
  rfl

/-- At every point the copy holds the weights. -/
theorem sc (c : Dev nD) (n : ℕ) (h : n < cfg0.N) : (outsAt0 m c n h).2.2 = V m c main_arg1 := by
  induction n with
  | zero => exact scA m c ⟨0, h⟩ rfl
  | succ n ih =>
    by_cases h0 : (n + 1) % 8 = 0
    · exact scA m c ⟨n + 1, h⟩ h0
    · exact (scB m c ⟨n + 1, h⟩ h0).trans (ih _)

/-- A load after one store of the whole array reads what was stored. -/
theorem readCov_of_whole {sig : RefSig} {κ : Kind} {sp : Space} {S : Shape} {e : EltTy} (v : View sig κ sp S e) (w : S.Idx → Elt Ideal e) (B : LoadRect S) :
    v.readCov [(⟨Rect.whole S, w⟩ : View.Piece (Elt Ideal) S e)] B = fun j => w (B.idx j) := by
  rw [View.readCov_eq_canon']
  funext j
  have h := View.canon_cons_emb (Val := Elt Ideal) (Rect.whole S) w [] (B.idx j)
  rwa [Rect.emb_whole_apply] at h

/-- The copied weights read back. -/
theorem WA (X : Vec Ideal S9216x1024 .bf16) (h) : (View.whole cc0_scratch0).readCov [⟨Rect.whole S9216x1024, ReadAs.same.apply (View.read (Elt Ideal) (View.whole main_arg1) X)⟩] (Rect.unit ![0,0] ![9216,1024] h).toLoadRect = X := by
  refine (readCov_of_whole (S := S9216x1024) (View.whole cc0_scratch0) _ _).trans ?_
  exact View.ld_unit_lit (S := S9216x1024) h X (by decide)

/-- The tile of the first result. -/
def gxTile (D x dy : FVec Ideal S512x1024 .f32) (xn : FVec Ideal S512x1024 .f32) (r : FVec Ideal S512x1 .f32) (g sc : Vec Ideal S1x1024 .f32) : FVec Ideal S512x1024 .f32 :=
  subf (addf dy (mulf (broadcastTo S512x1024 r broadcasts_S512x1_S512x1024) (mulf D (broadcastTo S512x1024 (mulf g (k0_pay77 sc)) broadcasts_S1x1024_S512x1024))))
   (mulf (mulf xn (broadcastTo S512x1024 (mulf r r) broadcasts_S512x1_S512x1024))
     (broadcastTo S512x1024 (divf (shapeCast S512x1 (multiReduction .add [1] S512 (mulf x (mulf D (broadcastTo S512x1024 (mulf g (k0_pay77 sc)) broadcasts_S1x1024_S512x1024))) 0x00000000#32 reduces_S512x1024_S512 (.inl rfl) rfl) shapeCasts_S512_S512x1) (broadcast S512x1 (Scalar.ofBits .f32 0x44800000#32))) broadcasts_S512x1_S512x1024))

/-- The first point stores that tile. -/
theorem out6A (c : Dev nD) (t : Fin cfg0.N) (h0 : t.val % 8 = 0) :
    (outsAt0 m c t.val t.isLt).1 = gxTile (dh (iblk m c 0 t) (V m c main_arg1)) (iblk m c 2 t) (iblk m c 3 t) (k0_pay79 (iblk m c 2 t)) (k0_pay78 (iblk m c 2 t)) (iblk m c 4 t) (iblk m c 5 t) := by
  rw [outsAt0_A m c t h0 h0]; frame_out
  generalize hB : iblk m c 0 t = B
  rw [WA]
  unfold k0_pay80
  simp only [← dh.eq_1]
  generalize dh B _ = DH
  rfl

/-- Every later point does too. -/
theorem out6B (c : Dev nD) (t : Fin cfg0.N) (h0 : ¬ t.val % 8 = 0) :
    (outsAt0 m c t.val t.isLt).1 = gxTile (dh (iblk m c 0 t) (V m c main_arg1)) (iblk m c 2 t) (iblk m c 3 t) (k0_pay79 (iblk m c 2 t)) (k0_pay78 (iblk m c 2 t)) (iblk m c 4 t) (iblk m c 5 t) := by
  rw [outsAt0_B m c t h0 h0]; frame_out
  generalize hB : iblk m c 0 t = B
  unfold k0_pay80
  simp only [← dh.eq_1]
  rw [sc]
  rw [show View.read (Elt Ideal) (View.whole cc0_scratch0) _ = V m c main_arg1 from Memref.IsWhole.read_unread _ _]
  generalize dh B _ = DH
  rfl

/-- The tile entry by entry. -/
theorem gxTile_apply (D x dy : FVec Ideal S512x1024 .f32) (xn : FVec Ideal S512x1024 .f32) (r : FVec Ideal S512x1 .f32) (g sc : Vec Ideal S1x1024 .f32)  (k : Fin 512) (i : Fin 1024) :
   gxTile D x dy xn r g sc (ix2 k i) = dy (ix2 k i) + r (ix2 k 0) * (D (ix2 k i) * (g (ix2 0 i) * sc (ix2 0 i)))
     - xn (ix2 k i) * (r (ix2 k 0) * r (ix2 k 0)) * Ideal.div (∑ l : Fin 1024, x (ix2 k l) * (D (ix2 k l) * (g (ix2 0 l) * sc (ix2 0 l)))) (Ideal.ofBits .f32 0x44800000#32) := by
  unfold gxTile k0_pay77
  pointwise

/-- A stored row read back. -/
theorem row_hit {κ : Kind} {sp : Space} (v : View sig κ sp S8x1024 .f32) (f : v.ty.Contents (Elt Ideal)) (o : ℕ) (ho : o < 8)
    (inb : ∀ a : Fin 2, (![o, 0] : Fin 2 → ℕ) a + (![1, 1024] : Fin 2 → ℕ) a ≤ (![8, 1024] : Fin 2 → ℕ) a)
    (w : Vec Ideal S1x1024 .f32) (L : List (View.Piece (Elt Ideal) S8x1024 .f32)) (i : Fin 1024) :
    v.read (Elt Ideal) (v.writes (Elt Ideal) f ((⟨Rect.unit (s := S8x1024) ![o, 0] ![1, 1024] inb, w⟩ : View.Piece (Elt Ideal) S8x1024 .f32) :: L)) (ix2 ⟨o, ho⟩ i) = w (ix2 0 i) :=
  View.read_writes_cons_unit_of_mem (s := S8x1024) v f inb w L _ (ix2 0 i) rfl (Fin.forall_fin_two.mpr ⟨rfl, (Nat.zero_add _).symm⟩)

/-- A store to another row changes nothing. -/
theorem row_miss {κ : Kind} {sp : Space} (v : View sig κ sp S8x1024 .f32) (f : v.ty.Contents (Elt Ideal)) (o : ℕ)
    (inb : ∀ a : Fin 2, (![o, 0] : Fin 2 → ℕ) a + (![1, 1024] : Fin 2 → ℕ) a ≤ (![8, 1024] : Fin 2 → ℕ) a)
    (w : Vec Ideal S1x1024 .f32) (L : List (View.Piece (Elt Ideal) S8x1024 .f32)) (a : Fin 8) (ha : a.val ≠ o) (i : Fin 1024) :
    v.read (Elt Ideal) (v.writes (Elt Ideal) f ((⟨Rect.unit (s := S8x1024) ![o, 0] ![1, 1024] inb, w⟩ : View.Piece (Elt Ideal) S8x1024 .f32) :: L)) (ix2 a i) = v.read (Elt Ideal) (v.writes (Elt Ideal) f L) (ix2 a i) :=
  View.read_writes_cons_unit_of_not_mem (s := S8x1024) v f inb w L _ rfl 0 (by
    show a.val < o ∨ o + 1 ≤ a.val
    omega)

/-- A row read from an array. -/
theorem row_ld (X : Vec Ideal S8x1024 .f32) (o : ℕ) (ho : o < 8) (inb) (i : Fin 1024) :
    View.ld X (Rect.unit (s := S8x1024) ![o, 0] ![1, 1024] inb) (ix2 0 i) = X (ix2 ⟨o, ho⟩ i) := by
  refine congrArg X (funext fun a => ?_)
  match a with
  | ⟨0, _⟩ => exact Fin.ext (by simp [LoadRect.idx, Rect.toLoadRect])
  | ⟨1, _⟩ => exact Fin.ext (by simp [LoadRect.idx, Rect.toLoadRect])

/-- What one tile adds to the second result. -/
def term (D xn : FVec Ideal S512x1024 .f32) (g sc : Vec Ideal S1x1024 .f32) (a : Fin 8) (i : Fin 1024) : EReal :=
  if a.val = 2 then ∑ k : Fin 512, D (ix2 k i)
  else if a.val = 1 then ∑ k : Fin 512, D (ix2 k i) * xn (ix2 k i) * g (ix2 0 i)
  else if a.val = 0 then ∑ k : Fin 512, D (ix2 k i) * xn (ix2 k i) * sc (ix2 0 i)
  else 0

/-- A later point adds its term. -/
theorem out7B (c : Dev nD) (t : Fin cfg0.N) (h0 : ¬t.val % 8 = 0) (a : Fin 8) (i : Fin 1024) : (outsAt0 m c t.val t.isLt).2.1 (ix2 a i) =
   (outsAt0 m c (t.val - 1) (Nat.lt_of_le_of_lt (Nat.sub_le _ _) t.isLt)).2.1 (ix2 a i) + term (dh (iblk m c 0 t) (V m c main_arg1)) (k0_pay79 (iblk m c 2 t)) (iblk m c 4 t) (iblk m c 5 t) a i := by
  rw [outsAt0_B m c t h0 h0]; frame_out
  generalize hB : iblk m c 0 t = B
  simp -failIfUnchanged only [← dh.eq_1]
  rw [show View.read (Elt Ideal) (View.whole cc0_scratch0) _ = V m c main_arg1 from (Memref.IsWhole.read_unread _ _).trans (sc m c _ _)]
  generalize hB : dh B _ = DH
  unfold term
  by_cases h2 : a.val = 2
  · rw [if_pos h2]
    obtain rfl : a = ⟨2, by decide⟩ := Fin.ext h2
    refine (row_hit _ _ 2 (by decide) _ _ _ i).trans ?_
    rw [pay5_apply, row_ld _ 2 (by decide)]
  rw [if_neg h2]
  refine (row_miss _ _ 2 _ _ _ a h2 i).trans ?_
  by_cases h1 : a.val = 1
  · rw [if_pos h1]
    obtain rfl : a = ⟨1, by decide⟩ := Fin.ext h1
    refine (row_hit _ _ 1 (by decide) _ _ _ i).trans ?_
    rw [pay4_apply, row_ld _ 1 (by decide)]
  rw [if_neg h1]
  refine (row_miss _ _ 1 _ _ _ a h1 i).trans ?_
  by_cases h0 : a.val = 0
  · rw [if_pos h0]
    obtain rfl : a = ⟨0, by decide⟩ := Fin.ext h0
    refine (row_hit _ _ 0 (by decide) _ _ _ i).trans ?_
    rw [pay3_apply, row_ld _ 0 (by decide)]
  rw [if_neg h0]
  refine (row_miss _ _ 0 _ _ _ a h0 i).trans ?_
  rw [add_zero]
  exact congrFun (Memref.IsWhole.read_unread _ _) _

/-- A row read after earlier stores. -/
theorem readCov_row (v : View sig .tc .vmem S8x1024 .f32) (o : ℕ) (ho : o < 8) (inb) (L : List (View.Piece (Elt Ideal) S8x1024 .f32)) (i : Fin 1024) :
    v.readCov L (Rect.unit (s := S8x1024) ![o, 0] ![1, 1024] inb).toLoadRect (ix2 0 i) = v.read (Elt Ideal) (v.writes (Elt Ideal) v.junk L) (ix2 ⟨o, ho⟩ i) := by
  exact row_ld (v.read (Elt Ideal) (v.writes (Elt Ideal) v.junk L)) o ho inb i

/-- The cleared array reads zero. -/
theorem zero_read (v : View sig .tc .vmem S8x1024 .f32) (inb) (y : S8x1024.Idx) :
    v.read (Elt Ideal) (v.writes (Elt Ideal) v.junk [(⟨Rect.unit (s := S8x1024) ![0, 0] ![8, 1024] inb, k0_pay2 (F := Ideal)⟩ : View.Piece (Elt Ideal) S8x1024 .f32)]) y = 0 :=
  (congrFun (View.read_writes_full (s := S8x1024) v v.junk inb _ []) y).trans (pay2_apply y)

/-- The first point leaves its term. -/
theorem out7A (c : Dev nD) (t : Fin cfg0.N) (h0 : t.val % 8 = 0) (a : Fin 8) (i : Fin 1024) : (outsAt0 m c t.val t.isLt).2.1 (ix2 a i) =
   term (dh (iblk m c 0 t) (V m c main_arg1)) (k0_pay79 (iblk m c 2 t)) (iblk m c 4 t) (iblk m c 5 t) a i := by
  rw [outsAt0_A m c t h0 h0]; frame_out
  generalize hB : iblk m c 0 t = B
  simp -failIfUnchanged only [← dh.eq_1]
  rw [WA]
  generalize hB : dh B _ = DH
  rw [← View.read_writes_junk_apply_eq_canon (ms0_7 t).view]
  unfold term
  by_cases h2 : a.val = 2
  · rw [if_pos h2]
    obtain rfl : a = ⟨2, by decide⟩ := Fin.ext h2
    refine (row_hit _ _ 2 (by decide) _ _ _ i).trans ?_
    rw [pay5_apply, readCov_row _ 2 (by decide), row_miss _ _ 1 _ _ _ _ (by decide), row_miss _ _ 0 _ _ _ _ (by decide), zero_read, zero_add]
  rw [if_neg h2]
  refine (row_miss _ _ 2 _ _ _ a h2 i).trans ?_
  by_cases h1 : a.val = 1
  · rw [if_pos h1]
    obtain rfl : a = ⟨1, by decide⟩ := Fin.ext h1
    refine (row_hit _ _ 1 (by decide) _ _ _ i).trans ?_
    rw [pay4_apply, readCov_row _ 1 (by decide), row_miss _ _ 0 _ _ _ _ (by decide), zero_read, zero_add]
  rw [if_neg h1]
  refine (row_miss _ _ 1 _ _ _ a h1 i).trans ?_
  by_cases h0 : a.val = 0
  · rw [if_pos h0]
    obtain rfl : a = ⟨0, by decide⟩ := Fin.ext h0
    refine (row_hit _ _ 0 (by decide) _ _ _ i).trans ?_
    rw [pay3_apply, readCov_row _ 0 (by decide), zero_read, zero_add]
  rw [if_neg h0]
  refine (row_miss _ _ 0 _ _ _ a h0 i).trans ?_
  exact zero_read _ _ _

end Cert.KernelIdeal.Value

end
-- ==== Proof.InputGradReference.lean ====
module

public import proofs.«01_k».proof.Proof.Gen.ReferenceIdeal.Run
public import Idealize.ShloMosaic.Lib.Pipeline.ValueKit

/-! The reference of the input gradient, entry by entry: the product with the transposed weights, the norm's factor,
the gradient through the norm with its row coefficient, and the three column sums of the second result. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The gradient of the projection's input: the packed gradient times the transposed weights. -/
def product (b : Vec Ideal S72x4096x128 .bf16) (w : Vec Ideal S9216x1024 .bf16) : FVec Ideal S4096x1024 .f32 :=
  (Host.dotGeneral dot_S4096x9216_S1024x9216_S4096x1024_1_1_0_0_n_n none (shapeCast _ (transpose S4096x72x128 [1, 0, 2] (extf .f32 b bitsLt_bf16_f32) transposes_S72x4096x128_S4096x72x128_1_0_2) shapeCasts_S4096x72x128_S4096x9216) (transpose S1024x9216 [1, 0] (extf .f32 w bitsLt_bf16_f32) transposes_S9216x1024_S1024x9216_1_0))

theorem product_apply (b : Vec Ideal S72x4096x128 .bf16) (w : Vec Ideal S9216x1024 .bf16) (t : Fin 4096) (i : Fin 1024) :
    product b w (ix2 t i) = ∑ s : Fin 9216, b (ix3 ⟨s / 128, by omega⟩ t ⟨s % 128, by omega⟩) * w (ix2 s i) := by
  unfold product
  pointwise

/-- The mean square of each row plus the norm's epsilon. -/
def meanSq (x : Vec Ideal S4096x1024 .f32) : FVec Ideal S4096x1 .f32 :=
  (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))

theorem meanSq_apply (x : Vec Ideal S4096x1024 .f32) (t : Fin 4096) : meanSq x (ix2 t 0)
    = Ideal.div (∑ l : Fin 1024, x (ix2 t l) * x (ix2 t l)) (Ideal.ofBits .f32 0x44800000#32) + Ideal.ofBits .f32 0x358637BD#32 := by
  unfold meanSq
  pointwise

theorem rsqrt_apply (v : FVec Ideal S4096x1 .f32) (t : Fin 4096) : Host.rsqrt v (ix2 t 0) = Ideal.rsqrt (v (ix2 t 0)) := rfl

/-- The scale the adaptive norm multiplies by: one plus the conditioning's scale. -/
def scale1p (a : Vec Ideal S1x1024 .f32) : FVec Ideal S1x1024 .f32 :=
  (addf (broadcastInDim S1x1024 ![] bcast_S_S1x1024 (constant (F := Ideal) S_ .f32 0x3F800000#32)) a)

/-- Half of the coefficient of `x` in the gradient through the norm. -/
def coef (x : Vec Ideal S4096x1024 .f32) (d : FVec Ideal S4096x1024 .f32) (g : Vec Ideal S1x1024 .f32) (s : FVec Ideal S1x1024 .f32)
    (r ms : FVec Ideal S4096x1 .f32) : FVec Ideal S4096x1024 .f32 :=
  (broadcastInDim S4096x1024 ![0] bcast_S4096_S4096x1024_0 (Host.reduceAdd (Host.divf (mulf (shapeCast _ (Host.reduceAdd (mulf x (mulf (mulf d (broadcastInDim S4096x1024 ![0, 1] bcast_S1x1024_S4096x1024_0_1 s)) (broadcastInDim S4096x1024 ![0, 1] bcast_S1x1024_S4096x1024_0_1 g))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf r ms))) (broadcastInDim S4096x1 ![] bcast_S_S4096x1 (constant (F := Ideal) S_ .f32 0x44800000#32))) (constant (F := Ideal) S_ .f32 0x00000000#32) reducesTo_S4096x1_S4096_d1 h_S_))

theorem coef_apply (x : Vec Ideal S4096x1024 .f32) (d : FVec Ideal S4096x1024 .f32) (g : Vec Ideal S1x1024 .f32) (s : FVec Ideal S1x1024 .f32)
    (r ms : FVec Ideal S4096x1 .f32) (t : Fin 4096) (i : Fin 1024) : coef x d g s r ms (ix2 t i)
    = Ideal.div ((∑ l : Fin 1024, x (ix2 t l) * (d (ix2 t l) * (g (ix2 0 l) * s (ix2 0 l))))
        * (Ideal.ofBits .f32 0xBF000000#32 * Ideal.div (r (ix2 t 0)) (ms (ix2 t 0)))) (Ideal.ofBits .f32 0x44800000#32) := by
  unfold coef
  pointwise
  rw [Fin.sum_univ_one]
  simp only [mul_assoc, mul_comm (s _) (g _)]

/-- The first result from the product, the norm's factor and its argument. -/
def through (x dy : Vec Ideal S4096x1024 .f32) (d : FVec Ideal S4096x1024 .f32) (g : Vec Ideal S1x1024 .f32) (s : FVec Ideal S1x1024 .f32)
    (r ms : FVec Ideal S4096x1 .f32) : FVec Ideal S4096x1024 .f32 :=
  addf (addf (addf dy (mulf (mulf (mulf d (broadcastInDim S4096x1024 ![0, 1] bcast_S1x1024_S4096x1024_0_1 s)) (broadcastInDim S4096x1024 ![0, 1] bcast_S1x1024_S4096x1024_0_1 g)) (broadcastInDim S4096x1024 ![0, 1] bcast_S4096x1_S4096x1024_0_1 r))) (mulf x (coef x d g s r ms))) (mulf (coef x d g s r ms) x)

theorem through_apply (x dy : Vec Ideal S4096x1024 .f32) (d : FVec Ideal S4096x1024 .f32) (g : Vec Ideal S1x1024 .f32) (s : FVec Ideal S1x1024 .f32)
    (r ms : FVec Ideal S4096x1 .f32) (t : Fin 4096) (i : Fin 1024) : through x dy d g s r ms (ix2 t i)
    = dy (ix2 t i) + d (ix2 t i) * s (ix2 0 i) * g (ix2 0 i) * r (ix2 t 0) + x (ix2 t i) * coef x d g s r ms (ix2 t i)
      + coef x d g s r ms (ix2 t i) * x (ix2 t i) := by
  unfold through
  generalize coef x d g s r ms = q
  pointwise

/-- The second result: the three column sums as rows, and five rows of zeros. -/
def sums (x : Vec Ideal S4096x1024 .f32) (d : FVec Ideal S4096x1024 .f32) (g : Vec Ideal S1x1024 .f32) (s : FVec Ideal S1x1024 .f32)
    (r : FVec Ideal S4096x1 .f32) : FVec Ideal S8x1024 .f32 :=
  (concatenate S8x1024 0 [⟨S1x1024, ((shapeCast _ (Host.reduceAdd (mulf (mulf x (broadcastInDim S4096x1024 ![0, 1] bcast_S4096x1_S4096x1024_0_1 r)) (mulf d (broadcastInDim S4096x1024 ![0, 1] bcast_S1x1024_S4096x1024_0_1 s))) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (mulf (mulf x (broadcastInDim S4096x1024 ![0, 1] bcast_S4096x1_S4096x1024_0_1 r)) (broadcastInDim S4096x1024 ![0, 1] bcast_S1x1024_S4096x1024_0_1 g)) d) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd d (constant (F := Ideal) S_ .f32 0x00000000#32) reducesTo_S4096x1024_S1024_d0 h_S_) shapeCasts_S1024_S1x1024) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal))

theorem sums_apply (x : Vec Ideal S4096x1024 .f32) (d : FVec Ideal S4096x1024 .f32) (g : Vec Ideal S1x1024 .f32) (s : FVec Ideal S1x1024 .f32)
    (r : FVec Ideal S4096x1 .f32) (a : Fin 8) (i : Fin 1024) : sums x d g s r (ix2 a i)
    = if a.val = 2 then ∑ t : Fin 4096, d (ix2 t i)
      else if a.val = 1 then ∑ t : Fin 4096, x (ix2 t i) * r (ix2 t 0) * g (ix2 0 i) * d (ix2 t i)
      else if a.val = 0 then ∑ t : Fin 4096, x (ix2 t i) * r (ix2 t 0) * (d (ix2 t i) * s (ix2 0 i))
      else 0 := by
  match a with
  | ⟨0, _⟩ => unfold sums; pointwise
  | ⟨1, _⟩ => unfold sums; pointwise
  | ⟨2, _⟩ => unfold sums; pointwise
  | ⟨3, _⟩ => unfold sums; pointwise
  | ⟨4, _⟩ => unfold sums; pointwise
  | ⟨5, _⟩ => unfold sums; pointwise
  | ⟨6, _⟩ => unfold sums; pointwise
  | ⟨7, _⟩ => unfold sums; pointwise

variable (m : (ℓ : Loc nD τ sig) → Buf (Elt Ideal) ℓ)

theorem res_eq (c : Dev nD) : res_main_v55 m c = through (m ((c.tc : Thread nD τ).loc main_arg3)) (m ((c.tc : Thread nD τ).loc main_arg4))
    (product (m ((c.tc : Thread nD τ).loc main_arg0)) (m ((c.tc : Thread nD τ).loc main_arg1))) (m ((c.tc : Thread nD τ).loc main_arg5))
    (scale1p (m ((c.tc : Thread nD τ).loc main_arg6))) (Host.rsqrt (meanSq (m ((c.tc : Thread nD τ).loc main_arg3)))) (meanSq (m ((c.tc : Thread nD τ).loc main_arg3))) := rfl

end Cert.ReferenceIdeal.Value

end
-- ==== Proof.NormGrad.lean ====
module

public import Idealize.ShloMosaic.Lib.Pipeline.ValueKit

/-! The gradient through the root mean square norm over the extended reals: the closed form and the differentiated form
agree. -/

@[expose] public section

set_option maxRecDepth 16384

noncomputable section

open Idealize.ShloMosaic Idealize.ShloMosaic.TcCoe Idealize.SL.Sem
open Idealize.ShloMosaic.Pipeline (Dat)

namespace Cert.NormGrad

/-- Dividing by the argument is cubing, for a positive argument, infinity included. -/
theorem rsqrt_div_self {s : EReal} (h : 0 < s) : Ideal.div (Ideal.rsqrt s) s = Ideal.rsqrt s * Ideal.rsqrt s * Ideal.rsqrt s := by
  induction s with
  | bot => exact absurd h (by simp)
  | top => rw [show Ideal.rsqrt ⊤ = 0 from rfl]; simp [Ideal.div]
  | coe r =>
    have hr : 0 < r := by exact_mod_cast h
    have hs : Real.sqrt r ≠ 0 := (Real.sqrt_pos.mpr hr).ne'
    have e : Ideal.rsqrt (r : EReal) = ((Real.sqrt r)⁻¹ : ℝ) := by
      show (if r < 0 then (⊥ : EReal) else if r = 0 then ⊤ else ((Real.sqrt r)⁻¹ : ℝ)) = _
      rw [if_neg hr.not_gt, if_neg hr.ne']
    rw [e, Ideal.div, if_neg (by exact_mod_cast hr.ne'), ← EReal.coe_inv, ← EReal.coe_mul, ← EReal.coe_mul, ← EReal.coe_mul]
    congr 1
    field_simp
    nlinarith [Real.mul_self_sqrt hr.le]
/-- Doubling, at the infinities too. -/
theorem add_self (a : EReal) : a + a = 2 * a := by
  induction a with
  | bot => rw [EReal.bot_add, EReal.mul_bot_of_pos (by norm_num)]
  | top => rw [EReal.top_add_top, EReal.mul_top_of_pos (by norm_num)]
  | coe r => rw [← EReal.coe_add, show (2 : EReal) = ((2 : ℝ) : EReal) from rfl, ← EReal.coe_mul]; congr 1; ring

/-- A square is not negative. -/
theorem sq_nonneg (a : EReal) : 0 ≤ a * a := by
  rcases le_total 0 a with h | h
  · exact mul_nonneg h h
  · rw [← neg_mul_neg]; exact mul_nonneg (EReal.neg_nonneg.mpr h) (EReal.neg_nonneg.mpr h)
/-- The word of the row length. -/
theorem w1024 : Ideal.ofBits .f32 0x44800000#32 = ((1024 : ℝ) : EReal) := by
  simp [Ideal.ofBits, Ideal.ieee, -EReal.coe_mul]; norm_num
/-- The word of the norm's epsilon is positive. -/
theorem weps : 0 < Ideal.ofBits .f32 0x358637BD#32 := by
  simp [Ideal.ofBits, Ideal.ieee, -EReal.coe_mul]
/-- The word of minus one half. -/
theorem whalf : Ideal.ofBits .f32 0xBF000000#32 = ((-1/2 : ℝ) : EReal) := by
  simp [Ideal.ofBits, Ideal.ieee, -EReal.coe_mul]; norm_num
/-- The word of one. -/
theorem wone : Ideal.ofBits .f32 0x3F800000#32 = 1 := by
  simp [Ideal.ofBits, Ideal.ieee, -EReal.coe_mul]; norm_num

/-- A mean over a row is a multiplication. -/
theorem div_1024 (a : EReal) : Ideal.div a (Ideal.ofBits .f32 0x44800000#32) = a * ((1024 : ℝ) : EReal)⁻¹ := by
  rw [w1024, Ideal.div, if_neg (by norm_num)]
/-- The norm's argument is positive. -/
theorem meanSq_pos {n : ℕ} (x : Fin n → EReal) :
    0 < Ideal.div (∑ l, x l * x l) (Ideal.ofBits .f32 0x44800000#32) + Ideal.ofBits .f32 0x358637BD#32 := by
  rw [div_1024]
  refine lt_of_lt_of_le weps (le_add_of_nonneg_left (mul_nonneg (Finset.sum_nonneg fun l _ => sq_nonneg _) ?_))
  rw [← EReal.coe_inv]
  exact_mod_cast (by norm_num : (0 : ℝ) ≤ (1024 : ℝ)⁻¹)
/-- The reference's differentiated form equals the kernel's closed form. -/
theorem through_norm (S ms x dy d g s : EReal) (h : 0 < ms) :
    dy + d * s * g * Ideal.rsqrt ms
        + x * Ideal.div (S * (Ideal.ofBits .f32 0xBF000000#32 * Ideal.div (Ideal.rsqrt ms) ms)) (Ideal.ofBits .f32 0x44800000#32)
        + Ideal.div (S * (Ideal.ofBits .f32 0xBF000000#32 * Ideal.div (Ideal.rsqrt ms) ms)) (Ideal.ofBits .f32 0x44800000#32) * x
      = dy + Ideal.rsqrt ms * (d * (g * s))
        - x * Ideal.rsqrt ms * (Ideal.rsqrt ms * Ideal.rsqrt ms) * Ideal.div S (Ideal.ofBits .f32 0x44800000#32) := by
  rw [rsqrt_div_self h, div_1024, div_1024, whalf]
  generalize Ideal.rsqrt ms = r
  generalize ((1024 : ℝ) : EReal)⁻¹ = n
  rw [mul_comm _ x, add_assoc (dy + _), add_self, sub_eq_add_neg,
    show d * s * g * r = r * (d * (g * s)) by ac_rfl]
  congr 1
  rw [show (2 : EReal) * (x * (S * (((-1/2 : ℝ) : EReal) * (r * r * r)) * n)) = (2 * ((-1/2 : ℝ) : EReal)) * (x * r * (r * r) * (S * n)) by ac_rfl,
    show (2 : EReal) * ((-1/2 : ℝ) : EReal) = -1 by
      rw [show (2 : EReal) = ((2 : ℝ) : EReal) from rfl, ← EReal.coe_mul]; norm_num, neg_one_mul]
end Cert.NormGrad
-- ==== Proof.InputGrad.lean ====
module

public import proofs.«01_k».proof.Proof.InputGradTile
public import proofs.«01_k».proof.Proof.InputGradReference
public import proofs.«01_k».proof.Proof.NormGrad
public import Idealize.ShloMosaic.Lib.Pipeline.ValueKit

/-! The input gradient of the combined projection: the eight tiles are the reference's rows, and the eight tiles' column
sums add up to the reference's. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
variable (m : (ℓ : Loc nD τ sig) → Buf (Elt Ideal) ℓ)

/-- The reference's first result in the kernel's form. -/
theorem through_eq (x dy d : FVec Ideal S4096x1024 .f32) (g s : FVec Ideal S1x1024 .f32) (t : Fin 4096) (i : Fin 1024) :
    Cert.ReferenceIdeal.Value.through x dy d g s (Host.rsqrt (Cert.ReferenceIdeal.Value.meanSq x)) (Cert.ReferenceIdeal.Value.meanSq x) (ix2 t i)
      = dy (ix2 t i) + Ideal.rsqrt (Cert.ReferenceIdeal.Value.meanSq x (ix2 t 0)) * (d (ix2 t i) * (g (ix2 0 i) * s (ix2 0 i)))
        - x (ix2 t i) * Ideal.rsqrt (Cert.ReferenceIdeal.Value.meanSq x (ix2 t 0))
          * (Ideal.rsqrt (Cert.ReferenceIdeal.Value.meanSq x (ix2 t 0)) * Ideal.rsqrt (Cert.ReferenceIdeal.Value.meanSq x (ix2 t 0)))
          * Ideal.div (∑ l : Fin 1024, x (ix2 t l) * (d (ix2 t l) * (g (ix2 0 l) * s (ix2 0 l)))) (Ideal.ofBits .f32 0x44800000#32) := by
  rw [Cert.ReferenceIdeal.Value.through_apply, Cert.ReferenceIdeal.Value.coef_apply, Cert.ReferenceIdeal.Value.rsqrt_apply]
  have h : 0 < Cert.ReferenceIdeal.Value.meanSq x (ix2 t 0) := by
    rw [Cert.ReferenceIdeal.Value.meanSq_apply]
    exact Cert.NormGrad.meanSq_pos _
  generalize Cert.ReferenceIdeal.Value.meanSq x (ix2 t 0) = ms at h ⊢
  exact Cert.NormGrad.through_norm _ ms _ _ _ _ _ h

/-- Where each block lies, decided over the grid. -/
theorem idx_val : ∀ t : Fin cfg0.N, win0_0.index t = ![0, t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] :=
  (by decide +kernel : ∀ t : Fin grid0.N, win0_0.index t = ![0, t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0])

theorem t_lt (t : Fin cfg0.N) : t.val < 8 := N_0 ▸ t.isLt

/-- A tile of x is rows of x. -/
theorem read_x (c : Dev nD) (t : Fin cfg0.N) (k : Fin 512) (l : Fin 1024) :
    iblk m c 2 t (ix2 k l) = m ((c : Thread nD τ).loc main_arg3) (ix2 ⟨t.val * 512 + k, by have := t_lt t; omega⟩ l) := by
  blk_point [iblk, V, idx_val t]

/-- A tile of dy is rows of dy. -/
theorem read_dy (c : Dev nD) (t : Fin cfg0.N) (k : Fin 512) (l : Fin 1024) :
    iblk m c 3 t (ix2 k l) = m ((c : Thread nD τ).loc main_arg4) (ix2 ⟨t.val * 512 + k, by have := t_lt t; omega⟩ l) := by
  blk_point [iblk, V, idx_val t]

/-- A tile of the packed gradient. -/
theorem read_dpb (c : Dev nD) (t : Fin cfg0.N) (b : Fin 72) (k : Fin 512) (l : Fin 128) :
    iblk m c 0 t (ix3 b k l) = m ((c : Thread nD τ).loc main_arg0) (ix3 b ⟨t.val * 512 + k, by have := t_lt t; omega⟩ l) := by
  blk_point [iblk, V, idx_val t]

/-- The gain. -/
theorem read_g (c : Dev nD) (t : Fin cfg0.N) (l : Fin 1024) :
    iblk m c 4 t (ix2 0 l) = m ((c : Thread nD τ).loc main_arg5) (ix2 0 l) := by
  blk_point [iblk, V, idx_val t]

/-- The scale the host prepares. -/
theorem V_scale (c : Dev nD) : V m c main_v1 = Cert.ReferenceIdeal.Value.scale1p (m ((c : Thread nD τ).loc main_arg6)) := by
  entry_read
  rfl

/-- The prepared scale's block. -/
theorem read_scale (c : Dev nD) (t : Fin cfg0.N) (l : Fin 1024) :
    iblk m c 5 t (ix2 0 l) = Cert.ReferenceIdeal.Value.scale1p (m ((c : Thread nD τ).loc main_arg6)) (ix2 0 l) := by
  rw [← V_scale]
  blk_point [iblk, idx_val t]

/-- A tile's product is rows of the whole product. -/
theorem dh_tile (c : Dev nD) (t : Fin cfg0.N) (k : Fin 512) (i : Fin 1024) :
    dh (iblk m c 0 t) (V m c main_arg1) (ix2 k i)
      = Cert.ReferenceIdeal.Value.product (m ((c : Thread nD τ).loc main_arg0)) (m ((c : Thread nD τ).loc main_arg1))
          (ix2 ⟨t.val * 512 + k, by have := t_lt t; omega⟩ i) := by
  rw [dh_apply, Cert.ReferenceIdeal.Value.product_apply, V_main_arg1]
  exact Finset.sum_congr rfl fun s _ => congrArg (· * _) (read_dpb m c t _ _ _)

/-- A tile's norm factor is the row's. -/
theorem rsqrt_tile (c : Dev nD) (t : Fin cfg0.N) (k : Fin 512) :
    k0_pay78 (iblk m c 2 t) (ix2 k 0)
      = Ideal.rsqrt (Cert.ReferenceIdeal.Value.meanSq (m ((c : Thread nD τ).loc main_arg3)) (ix2 ⟨t.val * 512 + k, by have := t_lt t; omega⟩ 0)) := by
  rw [pay78_apply, Cert.ReferenceIdeal.Value.meanSq_apply]
  simp only [read_x]

/-- Every point stores its tile. -/
theorem out6 (c : Dev nD) (t : Fin cfg0.N) :
    (outsAt0 m c t.val t.isLt).1 = gxTile (dh (iblk m c 0 t) (V m c main_arg1)) (iblk m c 2 t) (iblk m c 3 t) (k0_pay79 (iblk m c 2 t)) (k0_pay78 (iblk m c 2 t)) (iblk m c 4 t) (iblk m c 5 t) := by
  by_cases h : t.val % 8 = 0
  · exact out6A m c t h
  · exact out6B m c t h

/-- A tile's entry is the reference's. -/
theorem point_input (c : Dev nD) (t : Fin cfg0.N) (k : Fin 512) (i : Fin 1024) :
    gxTile (dh (iblk m c 0 t) (V m c main_arg1)) (iblk m c 2 t) (iblk m c 3 t) (k0_pay79 (iblk m c 2 t)) (k0_pay78 (iblk m c 2 t)) (iblk m c 4 t) (iblk m c 5 t) (ix2 k i)
      = Cert.ReferenceIdeal.Value.through (m ((c : Thread nD τ).loc main_arg3)) (m ((c : Thread nD τ).loc main_arg4))
        (Cert.ReferenceIdeal.Value.product (m ((c : Thread nD τ).loc main_arg0)) (m ((c : Thread nD τ).loc main_arg1)))
        (m ((c : Thread nD τ).loc main_arg5)) (Cert.ReferenceIdeal.Value.scale1p (m ((c : Thread nD τ).loc main_arg6)))
        (Host.rsqrt (Cert.ReferenceIdeal.Value.meanSq (m ((c : Thread nD τ).loc main_arg3))))
        (Cert.ReferenceIdeal.Value.meanSq (m ((c : Thread nD τ).loc main_arg3))) (ix2 ⟨t.val * 512 + k, by have := t_lt t; omega⟩ i) := by
  have hd := dh_tile m c t k
  have hx := read_x m c t k
  have hr := rsqrt_tile m c t k
  have hy := read_dy m c t k i
  have hg := read_g m c t
  have hs := read_scale m c t
  rw [through_eq, gxTile_apply, pay79_apply]
  generalize dh (iblk m c 0 t) (V m c main_arg1) = D at hd ⊢
  generalize Cert.ReferenceIdeal.Value.product _ _ = D' at hd ⊢
  generalize k0_pay78 (iblk m c 2 t) = r at hr ⊢
  generalize Cert.ReferenceIdeal.Value.meanSq _ = r' at hr ⊢
  generalize Cert.ReferenceIdeal.Value.scale1p _ = s' at hs ⊢
  generalize iblk m c 2 t = x at hx ⊢
  generalize iblk m c 3 t = dy at hy ⊢
  generalize iblk m c 4 t = g at hg ⊢
  generalize iblk m c 5 t = s at hs ⊢
  simp only [hd, hx, hr, hy, hg, hs]

/-- The first result is the reference's. -/
theorem final_input (c : Dev nD) : (dats m 0 c).arrAt 6 cfg0.N
    = Cert.ReferenceIdeal.Value.through (m ((c : Thread nD τ).loc main_arg3)) (m ((c : Thread nD τ).loc main_arg4))
        (Cert.ReferenceIdeal.Value.product (m ((c : Thread nD τ).loc main_arg0)) (m ((c : Thread nD τ).loc main_arg1)))
        (m ((c : Thread nD τ).loc main_arg5)) (Cert.ReferenceIdeal.Value.scale1p (m ((c : Thread nD τ).loc main_arg6)))
        (Host.rsqrt (Cert.ReferenceIdeal.Value.meanSq (m ((c : Thread nD τ).loc main_arg3))))
        (Cert.ReferenceIdeal.Value.meanSq (m ((c : Thread nD τ).loc main_arg3))) := by
  refine (dats m 0 c).arrAt_eq_of_covers 6 _ (by decide +kernel) fun t hf y => ?_
  blk_simp
  rw [after0_6, out6]
  obtain ⟨k, i, rfl⟩ : ∃ (k : Fin 512) (i : Fin 1024), y = ix2 k i := ⟨y 0, y 1, funext fun a => match a with | ⟨0, _⟩ => rfl | ⟨1, _⟩ => rfl⟩
  have he : ((cfg0.win 6).blk t).view.emb (ix2 k i) = ix2 ⟨t.val * 512 + k, by have := t_lt t; omega⟩ i := by
    blk_ext [idx_val t]
  rw [he]
  exact point_input m c t k i

theorem mul_left_comm_mul (d x g : EReal) : d * x * g = x * g * d := by ac_rfl

theorem mul_left_comm_mul' (d x s : EReal) : d * x * s = x * (d * s) := by ac_rfl

/-- A sum over all rows, tile by tile. -/
theorem sum_rows (f : Fin 4096 → EReal) :
    ∑ t, f t = ∑ p : Fin cfg0.N, ∑ k : Fin 512, f ⟨p.val * 512 + k, by have := t_lt p; omega⟩ :=
  (Fin.sum_mul_add_congr (M := EReal) (S := cfg0.N) (n := 512) (F := fun p k => f ⟨p.val * 512 + k, by have := t_lt p; omega⟩) (f := f) fun s k hl => rfl).symm

/-- The eight tiles' column sums add up to the whole array's. -/
theorem sum_terms (c : Dev nD) (a : Fin 8) (i : Fin 1024) :
    ∑ p : Fin cfg0.N, term (dh (iblk m c 0 p) (V m c main_arg1)) (k0_pay79 (iblk m c 2 p)) (iblk m c 4 p) (iblk m c 5 p) a i
      = Cert.ReferenceIdeal.Value.sums (m ((c : Thread nD τ).loc main_arg3))
        (Cert.ReferenceIdeal.Value.product (m ((c : Thread nD τ).loc main_arg0)) (m ((c : Thread nD τ).loc main_arg1)))
        (m ((c : Thread nD τ).loc main_arg5)) (Cert.ReferenceIdeal.Value.scale1p (m ((c : Thread nD τ).loc main_arg6)))
        (Host.rsqrt (Cert.ReferenceIdeal.Value.meanSq (m ((c : Thread nD τ).loc main_arg3)))) (ix2 a i) := by
  have hd := dh_tile m c
  have hx := read_x m c
  have hr := rsqrt_tile m c
  have hg := read_g m c
  have hs := read_scale m c
  generalize Cert.ReferenceIdeal.Value.product _ _ = D at hd ⊢
  generalize Cert.ReferenceIdeal.Value.meanSq _ = r at hr ⊢
  generalize Cert.ReferenceIdeal.Value.scale1p _ = s at hs ⊢
  rw [Cert.ReferenceIdeal.Value.sums_apply]
  unfold term
  split
  · rw [sum_rows]
    exact Finset.sum_congr rfl fun p _ => Finset.sum_congr rfl fun k _ => hd p k i
  split
  · rw [sum_rows]
    refine Finset.sum_congr rfl fun p _ => Finset.sum_congr rfl fun k _ => ?_
    rw [pay79_apply, hd, hx, hr, hg, Cert.ReferenceIdeal.Value.rsqrt_apply]
    exact mul_left_comm_mul _ _ _
  split
  · rw [sum_rows]
    refine Finset.sum_congr rfl fun p _ => Finset.sum_congr rfl fun k _ => ?_
    rw [pay79_apply, hd, hx, hr, hs, Cert.ReferenceIdeal.Value.rsqrt_apply]
    exact mul_left_comm_mul' _ _ _
  exact Finset.sum_const_zero

/-- The second result is the reference's. -/
theorem final_sums (c : Dev nD) : (dats m 0 c).arrAt 7 cfg0.N
    = Cert.ReferenceIdeal.Value.sums (m ((c : Thread nD τ).loc main_arg3))
        (Cert.ReferenceIdeal.Value.product (m ((c : Thread nD τ).loc main_arg0)) (m ((c : Thread nD τ).loc main_arg1)))
        (m ((c : Thread nD τ).loc main_arg5)) (Cert.ReferenceIdeal.Value.scale1p (m ((c : Thread nD τ).loc main_arg6)))
        (Host.rsqrt (Cert.ReferenceIdeal.Value.meanSq (m ((c : Thread nD τ).loc main_arg3)))) := by
  refine (dats m 0 c).arrAt_eq_of_after_last 7 t0_7 (by decide +kernel) _ fun j => ?_
  blk_simp
  obtain ⟨a, i, rfl⟩ : ∃ (a : Fin 8) (i : Fin 1024), j = ix2 a i := ⟨j 0, j 1, funext fun a => match a with | ⟨0, _⟩ => rfl | ⟨1, _⟩ => rfl⟩
  rw [after0_7, Pipeline.eq_sum_fin_of_reset_step_apply_last (fun n h => (outsAt0 m c n h).2.1) 8 (fun _ => 0)
    (fun p j => term (dh (iblk m c 0 p) (V m c main_arg1)) (k0_pay79 (iblk m c 2 p)) (iblk m c 4 p) (iblk m c 5 p) (j 0) (j 1))
    (fun t h j => by
      obtain ⟨a, i, rfl⟩ : ∃ (a : Fin 8) (i : Fin 1024), j = ix2 a i := ⟨j 0, j 1, funext fun a => match a with | ⟨0, _⟩ => rfl | ⟨1, _⟩ => rfl⟩
      rw [out7A m c t h a i, zero_add]; rfl)
    (fun t h j => by
      obtain ⟨a, i, rfl⟩ : ∃ (a : Fin 8) (i : Fin 1024), j = ix2 a i := ⟨j 0, j 1, funext fun a => match a with | ⟨0, _⟩ => rfl | ⟨1, _⟩ => rfl⟩
      rw [out7B m c t h a i]; rfl)
    (le_of_eq N_0) t0_7 rfl (ix2 a i), zero_add]
  exact sum_terms m c a i
end Cert.KernelIdeal.Value

end
-- ==== Proof.WeightGrad.lean ====
module

public import proofs.«01_k».proof.Proof.Gen.Kernel2Ideal.Frame
public import proofs.«01_k».proof.Proof.Gen.Reference2Ideal
public import Idealize.ShloMosaic.Lib.Pipeline.ValueKit

/-! The weight gradient of the combined projection: each grid point's packed block, its product with the transposed
activations, and the sum of the two token halves, equal to the reference's product. -/

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen
variable (m : (ℓ : Loc nD τ sig) → Buf (Elt Ideal) ℓ)

/-- Column block `n` of a packed gradient block, as a matrix of rows and lanes. -/
def piece (B : Vec Ideal S18x2048x128 .bf16) (n : Fin 18) : FVec Ideal S2048x128 .bf16 :=
  shapeCast S2048x128 (View.ld B (Rect.unit (s := S18x2048x128) ![n.val, 0, 0] S1x2048x128.size (by have := n.isLt; exact fun a => by fin_cases a <;> simp <;> omega))) shapeCasts_S1x2048x128_S2048x128

theorem piece_apply (B : Vec Ideal S18x2048x128 .bf16) (n : Fin 18) (k : Fin 2048) (l : Fin 128) :
    piece B n (ix2 k l) = B (ix3 n k l) := by
  have e (v : FVec Ideal S1x2048x128 .bf16) : shapeCast S2048x128 v shapeCasts_S1x2048x128_S2048x128 (ix2 k l) = v (ix3 0 k l) := by
    pointwise
    try blk_ext []
  unfold piece
  rw [e]
  exact View.ld_unit_apply_of (S := S18x2048x128) B _ _ _ _ _ fun a => match a with
    | ⟨0, _⟩ => rfl
    | ⟨1, _⟩ => (Nat.zero_add _).symm
    | ⟨2, _⟩ => (Nat.zero_add _).symm

/-- The packed block laid out as one matrix: its column blocks side by side. -/
abbrev packed (B : Vec Ideal S18x2048x128 .bf16) : FVec Ideal S2048x2304 .bf16 :=
  k0_pay1 (k0_pay7 (View.ld B (Rect.unit ![0, 0, 0] ![1, 2048, 128] inb_S18x2048x128_S1x2048x128_0_0_0)))
                (k0_pay8
                  (View.ld B (Rect.unit ![1, 0, 0] ![1, 2048, 128] inb_S18x2048x128_S1x2048x128_1_0_0)))
                (k0_pay9
                  (View.ld B (Rect.unit ![2, 0, 0] ![1, 2048, 128] inb_S18x2048x128_S1x2048x128_2_0_0)))
                (k0_pay10
                  (View.ld B (Rect.unit ![3, 0, 0] ![1, 2048, 128] inb_S18x2048x128_S1x2048x128_3_0_0)))
                (k0_pay11
                  (View.ld B (Rect.unit ![4, 0, 0] ![1, 2048, 128] inb_S18x2048x128_S1x2048x128_4_0_0)))
                (k0_pay12
                  (View.ld B (Rect.unit ![5, 0, 0] ![1, 2048, 128] inb_S18x2048x128_S1x2048x128_5_0_0)))
                (k0_pay13
                  (View.ld B (Rect.unit ![6, 0, 0] ![1, 2048, 128] inb_S18x2048x128_S1x2048x128_6_0_0)))
                (k0_pay14
                  (View.ld B (Rect.unit ![7, 0, 0] ![1, 2048, 128] inb_S18x2048x128_S1x2048x128_7_0_0)))
                (k0_pay15
                  (View.ld B (Rect.unit ![8, 0, 0] ![1, 2048, 128] inb_S18x2048x128_S1x2048x128_8_0_0)))
                (k0_pay16
                  (View.ld B (Rect.unit ![9, 0, 0] ![1, 2048, 128] inb_S18x2048x128_S1x2048x128_9_0_0)))
                (k0_pay17
                  (View.ld B (Rect.unit ![10, 0, 0] ![1, 2048, 128] inb_S18x2048x128_S1x2048x128_10_0_0)))
                (View.ld B (Rect.unit ![11, 0, 0] ![1, 2048, 128] inb_S18x2048x128_S1x2048x128_11_0_0))
                (View.ld B (Rect.unit ![12, 0, 0] ![1, 2048, 128] inb_S18x2048x128_S1x2048x128_12_0_0))
                (View.ld B (Rect.unit ![13, 0, 0] ![1, 2048, 128] inb_S18x2048x128_S1x2048x128_13_0_0))
                (View.ld B (Rect.unit ![14, 0, 0] ![1, 2048, 128] inb_S18x2048x128_S1x2048x128_14_0_0))
                (View.ld B (Rect.unit ![15, 0, 0] ![1, 2048, 128] inb_S18x2048x128_S1x2048x128_15_0_0))
                (View.ld B (Rect.unit ![16, 0, 0] ![1, 2048, 128] inb_S18x2048x128_S1x2048x128_16_0_0))
                (View.ld B (Rect.unit ![17, 0, 0] ![1, 2048, 128] inb_S18x2048x128_S1x2048x128_17_0_0))

theorem packed_apply (B : Vec Ideal S18x2048x128 .bf16) (k : Fin 2048) (s : Fin 2304) :
    packed B (ix2 k s) = B (ix3 ⟨s / 128, by omega⟩ k ⟨s % 128, by omega⟩) := by
  have e : Shape.Concatenates ((List.ofFn fun n : Fin 18 => (⟨S2048x128, piece B n⟩ : (s : Shape) × (s.Idx → Ideal .bf16))).map (·.1)) S2048x2304 1 :=
    concatenates_S2048x128_S2048x128_S2048x128_S2048x128_S2048x128_S2048x128_S2048x128_S2048x128_S2048x128_S2048x128_S2048x128_S2048x128_S2048x128_S2048x128_S2048x128_S2048x128_S2048x128_S2048x128_S2048x2304_d1
  refine Eq.trans (?_ : _ = concatenate S2048x2304 1 (List.ofFn fun n : Fin 18 => ⟨S2048x128, piece B n⟩) e (ix2 k s)) ?_
  · rfl
  rw [concatenate_ofFn_apply 1 (piece B) e rfl 128 rfl (ix2 k s) ⟨s / 128, by omega⟩ rfl (ix2 k ⟨s % 128, by omega⟩) rfl]
  · exact piece_apply B _ _ _
  · intro b hb
    match b with
    | ⟨0, _⟩ => rfl
    | ⟨1, _⟩ => exact absurd rfl hb
/-- What one block of rows contributes to the gradient. -/
def part (X : FVec Ideal S1024x2048 .bf16) (B : FVec Ideal S18x2048x128 .bf16) (y : S2x1024x1152.Idx) : EReal :=
  ∑ k : Fin 2048, X (ix2 (y 1) k) * B (ix3 ⟨(1152 * (y 0 : ℕ) + (y 2 : ℕ)) / 128, by idx_bounds; omega⟩ k ⟨(1152 * (y 0 : ℕ) + (y 2 : ℕ)) % 128, by omega⟩)

abbrev prod (X : FVec Ideal S1024x2048 .bf16) (B : FVec Ideal S18x2048x128 .bf16) : FVec Ideal S1024x2304 .f32 :=
  k0_pay2 (packed B) X

theorem prod_apply (X : FVec Ideal S1024x2048 .bf16) (B : FVec Ideal S18x2048x128 .bf16) (i : Fin 1024) (s : Fin 2304) :
    prod X B (ix2 i s) = ∑ k : Fin 2048, X (ix2 i k) * B (ix3 ⟨s / 128, by omega⟩ k ⟨s % 128, by omega⟩) := by
  have e (P : FVec Ideal S2048x2304 .bf16) : k0_pay2 P X (ix2 i s) = ∑ k : Fin 2048, X (ix2 i k) * P (ix2 k s) := by pointwise [k0_pay2]
  refine (e _).trans (Finset.sum_congr rfl fun k _ => ?_)
  rw [packed_apply]

theorem part_eq (X : FVec Ideal S1024x2048 .bf16) (B : FVec Ideal S18x2048x128 .bf16) (y : S2x1024x1152.Idx) (i : Fin 1024) (s : Fin 2304)
   (hi : i.val = y 1) (hs : s.val = 1152 * (y 0 : ℕ) + (y 2 : ℕ)) :
   prod X B (ix2 i s) = part X B y := by
  rw [prod_apply]
  unfold part
  obtain rfl : i = y 1 := Fin.ext hi
  simp only [hs]

theorem idx_val : ∀ t : Fin cfg0.N, win0_0.index t = ![0, t.val % 2] ∧ win0_1.index t = ![t.val / 2, t.val % 2, 0]
    ∧ win0_2.index t = ![t.val / 2, 0, 0] :=
  (by decide +kernel : ∀ t : Fin grid0.N, win0_0.index t = ![0, t.val % 2] ∧ win0_1.index t = ![t.val / 2, t.val % 2, 0]
    ∧ win0_2.index t = ![t.val / 2, 0, 0])

/-- The activations, as both programs' hosts make them: the normalised input, scaled and shifted. -/
def activations (x : FVec Ideal S4096x1024 .f32) (g sc sh : FVec Ideal S1x1024 .f32) : FVec Ideal S4096x1024 .f32 :=
  addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 (addf (broadcastInDim S1x1024 ![] bcast_S_S1x1024 (constant S_ .f32 0x3F800000#32)) sc))) (broadcastInDim S4096x1024 ![0, 1] bcast_S1x1024_S4096x1024_0_1 sh)

/-- What the host hands to the kernel: the activations, transposed. -/
theorem V_activations (c : Dev nD) : V m c main_v19 = transpose S1024x4096 [1, 0] (activations (m ((c : Thread nD τ).loc main_arg0))
    (m ((c : Thread nD τ).loc main_arg1)) (m ((c : Thread nD τ).loc main_arg2)) (m ((c : Thread nD τ).loc main_arg3)) : FVec Ideal S4096x1024 .f32) transposes_S4096x1024_S1024x4096_1_0 := by
  entry_read
  rfl

/-- The reference, from the activations. -/
abbrev REF (X : FVec Ideal S4096x1024 .f32) (D : FVec Ideal S72x4096x128 .bf16) : FVec Ideal S8x1024x1152 .f32 :=
  open Cert.Reference2Ideal Cert.Reference2Ideal.Gen in
  transpose S8x1024x1152 [1, 0, 2] (shapeCast _ (transpose S1024x9216 [1, 0] (Host.dotGeneral dot_S4096x9216_S4096x1024_S9216x1024_0_0_1_1_n_n none (shapeCast _ (transpose S4096x72x128 [1, 0, 2] (extf .f32 D Cert.Reference2Ideal.Gen.bitsLt_bf16_f32) transposes_S72x4096x128_S4096x72x128_1_0_2) shapeCasts_S4096x72x128_S4096x9216) X) transposes_S9216x1024_S1024x9216_1_0) shapeCasts_S1024x9216_S1024x8x1152) transposes_S1024x8x1152_S8x1024x1152_1_0_2

theorem REF_apply (X : FVec Ideal S4096x1024 .f32) (D : FVec Ideal S72x4096x128 .bf16) (j) :
   REF X D j = ∑ l : Fin 4096, X (ix2 l (j 1)) * D (ix3 ⟨(1152 * (j 0 : ℕ) + (j 2 : ℕ)) / 128, by idx_bounds; omega⟩ l ⟨(1152 * (j 0 : ℕ) + (j 2 : ℕ)) % 128, by omega⟩) := by
  simp only [mul_comm (X _)]
  pointwise [REF]
  blk_point []

/-- A block of the activations' columns, entry by entry. -/
theorem read_activations (c : Dev nD) (t : Fin cfg0.N) (i : Fin 1024) (k : Fin 2048) :
    iblk m c 0 t (ix2 i k) = activations (m ((c : Thread nD τ).loc main_arg0))
      (m ((c : Thread nD τ).loc main_arg1)) (m ((c : Thread nD τ).loc main_arg2)) (m ((c : Thread nD τ).loc main_arg3))
      (ix2 ⟨2048 * (t.val % 2) + k, by omega⟩ i) := by
  have e : iblk m c 0 t (ix2 i k) = (V m c main_v19 : FVec Ideal S1024x4096 .f32) (ix2 i ⟨2048 * (t.val % 2) + k, by omega⟩) := by
    blk_point [iblk, idx_val t]
  rw [e, V_activations]
  generalize activations _ _ _ _ = H
  pointwise []

/-- The first block of rows of a tile stores its contribution. -/
theorem out_A (c : Dev nD) (t : Fin cfg0.N) (h : t.val % 2 = 0) (y) :
    outsAt0 m c t.val t.isLt y = part (iblk m c 0 t) (iblk m c 1 t) y := by
  rw [outsAt0_A m c t h (by omega)]; frame_out
  canon_tiles x h
  · refine Eq.trans ?_ (part_eq _ _ _ ⟨x 1, x1_lt⟩ ⟨1152 + x 2, by omega⟩ (by simp [h1]) (by simp; omega))
    pointwise [k0_pay4]
    blk_ext []
  · refine Eq.trans ?_ (part_eq _ _ _ ⟨x 1, x1_lt⟩ ⟨x 2, by omega⟩ (by simp [h1]) (by simp; omega))
    pointwise [k0_pay3]
    blk_ext []

theorem pay5_apply (v : FVec Ideal S1024x2304 .f32) (w : Vec Ideal S1x1024x1152 .f32) (y : S1x1024x1152.Idx) :
    k0_pay5 v w y = w y + v (ix2 (y 1) ⟨y 2, by idx_bounds; omega⟩) := by pointwise [k0_pay5]

theorem pay6_apply (v : FVec Ideal S1024x2304 .f32) (w : Vec Ideal S1x1024x1152 .f32) (y : S1x1024x1152.Idx) :
    k0_pay6 v w y = w y + v (ix2 (y 1) ⟨1152 + y 2, by idx_bounds; omega⟩) := by pointwise [k0_pay6]

/-- The second one adds its contribution to what the first one left. -/
theorem out_B (c : Dev nD) (t : Fin cfg0.N) (h : ¬t.val % 2 = 0) (y) :
    outsAt0 m c t.val t.isLt y
      = outsAt0 m c (t.val - 1) (Nat.lt_of_le_of_lt (Nat.sub_le _ _) t.isLt) y + part (iblk m c 0 t) (iblk m c 1 t) y := by
  rw [outsAt0_B m c t h (by omega)]; frame_out
  generalize outsAt0 m c (t.val - 1) _ = acc
  canon_tiles x h
  · refine (pay6_apply _ _ x).trans (congrArg₂ (· + ·) (View.ld_unit_apply_of (S := S2x1024x1152) acc _ _ _ _ _ fun a => ?_) (part_eq _ _ _ _ _ ?_ ?_))
    · match a with
      | ⟨0, _⟩ => exact h0
      | ⟨1, _⟩ => exact h1.trans (Nat.zero_add _).symm
      | ⟨2, _⟩ => exact h2.trans (Nat.zero_add _).symm
    · exact h1.symm
    · dsimp only; omega
  · refine (pay5_apply _ _ x).trans (congrArg₂ (· + ·) (View.ld_unit_apply_of (S := S2x1024x1152) acc _ _ _ _ _ fun a => ?_) (part_eq _ _ _ _ _ ?_ ?_))
    · match a with
      | ⟨0, _⟩ => exact h0.trans (Nat.zero_add _).symm
      | ⟨1, _⟩ => exact h1.trans (Nat.zero_add _).symm
      | ⟨2, _⟩ => exact h2.trans (Nat.zero_add _).symm
    · exact h1.symm
    · dsimp only; omega

theorem final (c : Dev nD) : (dats m 0 c).arrAt 2 cfg0.N
    = REF (activations (m ((c : Thread nD τ).loc main_arg0)) (m ((c : Thread nD τ).loc main_arg1)) (m ((c : Thread nD τ).loc main_arg2)) (m ((c : Thread nD τ).loc main_arg3)))
      (m ((c : Thread nD τ).loc main_arg4)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => part (iblk m c 0 p) (iblk m c 1 p) j)
    (fun t h j => by rw [out_A m c t h, zero_add]) (fun t h j => by rw [out_B m c t h])
    t ((flush0_2 t).mp hf) _, zero_add, REF_apply]
  unfold part
  refine Fin.sum_mul_add_congr fun s k hl => ?_
  rw [show iblk m c 0 ⟨_, Pipeline.run_point_lt_of_flush t ((flush0_2 t).mp hf) s⟩ (ix2 (y 1) k) = _ from read_activations m c _ (y 1) k]
  generalize activations _ _ _ _ = H
  blk_point [iblk, V, idx_val t, idx_val ⟨_, Pipeline.run_point_lt_of_flush t ((flush0_2 t).mp hf) s⟩]
end Cert.Kernel2Ideal.Value

end
-- ==== Proof.Projection.lean ====
module

public import proofs.«01_k».proof.Proof.Gen.Kernel4Ideal.Frame
public import proofs.«01_k».proof.Proof.Gen.Reference4Ideal.Run
public import Idealize.ShloMosaic.Lib.Pipeline.ValueKit

/-! What the three calls of the combined projection share: the product that a grid point forms, the block of its columns
that it stores, and the host's own projection, entry by entry. -/

@[expose] public section

set_option maxRecDepth 16384

noncomputable section

open Idealize.ShloMosaic Idealize.ShloMosaic.TcCoe Idealize.SL.Sem
open Idealize.ShloMosaic.Pipeline (Dat)

namespace Cert.Kernel4Ideal.Projection

open Cert.Kernel4Ideal Cert.Kernel4Ideal.Gen

/-- One point's product: activations' rows against the chip's rows of the weights. -/
def prod (X : FVec Ideal S1024x1024 .bf16) (W : FVec Ideal S2304x1024 .bf16) (y : S18x1024x128.Idx) : EReal :=
  ∑ k : Fin 1024, X (ix2 (y 1) k) * W (ix2 ⟨128 * (y 0 : ℕ) + (y 2 : ℕ), by idx_bounds; omega⟩ k)

theorem pay6_apply (X : FVec Ideal S1024x1024 .bf16) (W : FVec Ideal S2304x1024 .bf16) (i : Fin 1024) (s : Fin 2304) :
    k0_pay6 (F := Ideal) X W (ix2 i s) = ∑ k : Fin 1024, X (ix2 i k) * W (ix2 s k) := by pointwise [k0_pay6]

/-- Columns `o … o + 127` of the product, as the block that is stored. -/
theorem column (X : FVec Ideal S1024x1024 .bf16) (W : FVec Ideal S2304x1024 .bf16) (y : S18x1024x128.Idx) (x : S1x1024x128.Idx)
    (o : ℕ) (ho : S1024x2304.Slices ![0, o] S1024x128) (h1 : (y 1 : ℕ) = x 1) (h2 : o + (x 2 : ℕ) = 128 * (y 0 : ℕ) + (y 2 : ℕ)) :
    shapeCast S1x1024x128 (extractStridedSlice S1024x128 ![0, o] (k0_pay6 (F := Ideal) X W) ho) shapeCasts_S1024x128_S1x1024x128 x = prod X W y := by
  have e (P : FVec Ideal S1024x2304 .f32) : shapeCast S1x1024x128 (extractStridedSlice S1024x128 ![0, o] P ho) shapeCasts_S1024x128_S1x1024x128 x
      = P (ix2 (y 1) ⟨128 * (y 0 : ℕ) + (y 2 : ℕ), by idx_bounds; omega⟩) := by
    pointwise
    blk_ext []
  exact (e _).trans (pay6_apply X W _ _)

/-- The activations, as both programs' hosts make them: the normalised input, scaled and shifted. -/
def activations (x : FVec Ideal S4096x1024 .f32) (g sc sh : FVec Ideal S1x1024 .f32) : FVec Ideal S4096x1024 .f32 :=
  addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 (addf (broadcastInDim S1x1024 ![] bcast_S_S1x1024 (constant S_ .f32 0x3F800000#32)) sc))) (broadcastInDim S4096x1024 ![0, 1] bcast_S1x1024_S4096x1024_0_1 sh)

/-- The whole projection, its columns in blocks of 128. -/
def projection (H : FVec Ideal S4096x1024 .f32) (W : FVec Ideal S9216x1024 .bf16) (i : S72x4096x128.Idx) : EReal :=
  ∑ k : Fin 1024, H (ix2 (i 1) k) * W (ix2 ⟨128 * (i 0 : ℕ) + (i 2 : ℕ), by idx_bounds; omega⟩ k)

/-- The host's projection: one product, its columns cut into blocks of 128, the blocks in front. -/
def blocks (H : FVec Ideal S4096x1024 .f32) (W : FVec Ideal S9216x1024 .bf16) : FVec Ideal S72x4096x128 .f32 :=
  open Cert.Reference4Ideal Cert.Reference4Ideal.Gen in
  transpose S72x4096x128 [1, 0, 2] (shapeCast _ (Host.dotGeneral dot_S4096x1024_S1024x9216_S4096x9216_1_0_0_1_n_n none H (transpose S1024x9216 [1, 0] (extf .f32 W Cert.Reference4Ideal.Gen.bitsLt_bf16_f32) transposes_S9216x1024_S1024x9216_1_0)) shapeCasts_S4096x9216_S4096x72x128) transposes_S4096x72x128_S72x4096x128_1_0_2

theorem blocks_apply (H : FVec Ideal S4096x1024 .f32) (W : FVec Ideal S9216x1024 .bf16) (i : S72x4096x128.Idx) :
    blocks H W i = projection H W i := by
  unfold projection
  pointwise [blocks]
  blk_point []

end Cert.Kernel4Ideal.Projection

end
-- ==== Proof.Own.lean ====
module

public import proofs.«01_k».proof.Proof.Gen.Kernel3Ideal.Frame
public import proofs.«01_k».proof.Proof.Gen.Reference3Ideal.Run
public import proofs.«01_k».proof.Proof.Projection

/-! The combined projection, the call for the chip's own columns: the block each grid point writes is the product of
its activations with the chip's weights, and the host keeps the blocks that the call writes. -/

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Kernel4Ideal.Projection

/-- The chip list the host hands over: chip 0 alone. -/
def words : pre0.Contents (Elt Ideal) := fun
  | ⟨0, _⟩ => constantI S1 32 0#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem adm_eq (m : (ℓ : Loc nD τ sig) → Buf (Elt Ideal) ℓ) : adm m (ok m) = ⟨words, ok_words⟩ := Subtype.ext (tbl_eq m)

theorem idx_words : ∀ t : Fin grid0.N, cc0_transform_0 (grid0.coords t) = ![t.val % 4, 0]
    ∧ cc0_transform_1 k0_off1_inb numel1_S1 words (grid0.coords t) = ![0, 0]
    ∧ cc0_transform_2 k0_off1_inb numel1_S1 words (grid0.coords t) = ![0, t.val % 4, 0] := by decide +kernel

theorem covers_words : ((cfg0 (F := Ideal) ⟨words, ok_words⟩).win 2).CoversWhere (fun β => β (0 : Fin 3) = 0) := by decide +kernel

/-- What a grid point stores, from the two blocks that it reads. -/
theorem tile (c : Dev nD) (i : grid0.Coords) (a : Memref sig .tc .vmem S1024x1024 .bf16) (ha : a.IsWhole) (b : Memref sig .tc .vmem S2304x1024 .bf16) (hb : b.IsWhole)
    (o : Memref sig .tc .vmem S18x1024x128 .f32) (ho : o.IsWhole) (X : FVec Ideal S1024x1024 .bf16) (W : FVec Ideal S2304x1024 .bf16) (z) (y : S18x1024x128.Idx) :
    out0_A_2 (F := Ideal) c i a ha b hb o ho X W z y = prod X W y := by
  frame_out
  canon_tiles x h
  all_goals exact column X W y x _ (by decide) h1 (by omega)

variable (m : (ℓ : Loc nD τ sig) → Buf (Elt Ideal) ℓ)

theorem after_eq (c : Dev nD) (t : Fin (cfgM m (ok m)).N) (y : S18x1024x128.Idx) :
    outsAt0 m (ok m) c t y = prod (iblk m (ok m) c 0 t) (iblk m (ok m) c 1 t) y := tile ..

theorem index_0 (t : Fin (cfgM m (ok m)).N) : ((cfgM m (ok m)).win 0).index t = ![t.val % 4, 0] := (idx_words t).1

theorem index_1 (t : Fin (cfgM m (ok m)).N) : ((cfgM m (ok m)).win 1).index t = ![0, 0] := by
  have e : ∀ (pf : pre0.Contents (Elt Ideal)) (h : ok0 pf), pf = words → ((cfg0 ⟨pf, h⟩).win 1).index t = ![0, 0] := by
    rintro _ h rfl; exact (idx_words t).2.1
  exact e _ _ (tbl_eq m)

theorem index_2 (t : Fin (cfgM m (ok m)).N) : ((cfgM m (ok m)).win 2).index t = ![0, t.val % 4, 0] := by
  have e : ∀ (pf : pre0.Contents (Elt Ideal)) (h : ok0 pf), pf = words → ((cfg0 ⟨pf, h⟩).win 2).index t = ![0, t.val % 4, 0] := by
    rintro _ h rfl; exact (idx_words t).2.2
  exact e _ _ (tbl_eq m)

theorem covers : ((cfgM m (ok m)).win 2).CoversWhere (fun β => β (0 : Fin 3) = 0) := by
  have e : ∀ (pf : pre0.Contents (Elt Ideal)) (h : ok0 pf), pf = words → ((cfg0 ⟨pf, h⟩).win 2).CoversWhere (fun β => β (0 : Fin 3) = 0) := by
    rintro _ h rfl; exact covers_words
  exact e _ _ (tbl_eq m)

theorem V_activations (c : Dev nD) : V m c main_v18 = activations (m ((c : Thread nD τ).loc main_arg0))
    (m ((c : Thread nD τ).loc main_arg1)) (m ((c : Thread nD τ).loc main_arg2)) (m ((c : Thread nD τ).loc main_arg3)) := by
  entry_read
  rfl

theorem read_0 (c : Dev nD) (t : Fin (cfgM m (ok m)).N) (i k : Fin 1024) :
    iblk m (ok m) c 0 t (ix2 i k) = V m c main_v18 (ix2 ⟨1024 * (t.val % 4) + i, by omega⟩ k) := by
  show V m c main_v18 _ = _
  generalize V m c main_v18 = H
  blk_ext [index_0 m t]

theorem read_1 (c : Dev nD) (t : Fin (cfgM m (ok m)).N) (i : Fin 2304) (k : Fin 1024) :
    iblk m (ok m) c 1 t (ix2 i k) = V m c main_arg4 (ix2 ⟨i, by omega⟩ k) := by
  show V m c main_arg4 _ = _
  generalize V m c main_arg4 = H
  blk_ext [index_1 m t]

/-- What the call leaves: the chip's blocks of the projection, and the other blocks as they were. -/
theorem final (c : Dev nD) : (dats m (ok m) 0 c).arrAt 2 (cfgM m (ok m)).N
    = fun i : S72x4096x128.Idx => if (i 0 : ℕ) / 18 = 0 then
      projection (V m c main_v18) (V m c main_arg4) i else V m c main_v19 i := by
  refine (dats m (ok m) 0 c).arrAt_eq_of_coversWhere 2 _ (fun β => β (0 : Fin 3) = 0) (covers m) (fun t hf y => ?_) (fun j => Iff.rfl)
  blk_simp
  rw [after0_2]
  refine (after_eq m c t y).trans ?_
  unfold prod projection
  refine Finset.sum_congr rfl fun k _ => ?_
  refine congrArg₂ (· * ·) ((read_0 m c t _ k).trans ?_) ((read_1 m c t _ k).trans ?_)
  · blk_ext [index_2 m t]
  · blk_ext [index_2 m t]

/-- The reference, from the activations: the chip's own blocks of the projection. -/
def REF (H : FVec Ideal S4096x1024 .f32) (W : FVec Ideal S9216x1024 .bf16) : FVec Ideal S18x4096x128 .f32 :=
  extractStridedSlice S18x4096x128 ![0, 0, 0] (blocks H W) slices_S72x4096x128_S18x4096x128_0_0_0

/-- The array as the call leaves it. -/
abbrev written (c : Dev nD) : FVec Ideal S72x4096x128 .f32 := (dats m (ok m) 0 c).arrAt 2 (cfgM m (ok m)).N

/-- What the host keeps of it: the chip's own blocks. -/
def kept (c : Dev nD) : FVec Ideal S18x4096x128 .f32 :=
  extractStridedSlice S18x4096x128 ![0, 0, 0] (written m c) slices_S72x4096x128_S18x4096x128_0_0_0

theorem result (c : Dev nD) : kept m c
    = REF (activations (m ((c : Thread nD τ).loc main_arg0)) (m ((c : Thread nD τ).loc main_arg1)) (m ((c : Thread nD τ).loc main_arg2)) (m ((c : Thread nD τ).loc main_arg3)))
      (m ((c : Thread nD τ).loc main_arg4)) := by
  unfold kept REF
  rw [show written m c = _ from final m c, V_activations]
  have e (P Q B : FVec Ideal S72x4096x128 .f32) (h : ∀ i, P i = Q i) :
      extractStridedSlice S18x4096x128 ![0, 0, 0] (fun i : S72x4096x128.Idx => if (i 0 : ℕ) / 18 = 0 then Q i else B i) slices_S72x4096x128_S18x4096x128_0_0_0
        = extractStridedSlice S18x4096x128 ![0, 0, 0] P slices_S72x4096x128_S18x4096x128_0_0_0 := by
    obtain rfl : P = Q := funext h
    funext j
    idx_bounds j
    pointwise
    exact if_pos (by omega)
  exact e _ _ _ (blocks_apply _ _)

theorem run (ρ : Dev nD → PrngReg) : θ_run defs (onTc (τ := τ) (main (F := Ideal))) ⟨m, fun _ => 0, ρ⟩ (fun r => ∀ c : Dev nD,
    r.2.mem ((c.tc : Thread nD τ).loc main_v20) = kept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun _ h c => ⟨((h.1 c).2 main_v20 (by show main_v20 ∈ Pipeline.restRefs sig spec0; decide)).trans ?_, h.2 c⟩) (θ_run_and (run_main m ρ (ok m)) (unchanged m ρ (ok m)))
  unfold Pipeline.afterTail
  show StableHlo.after hostOps1 _ _ = _
  simp only [hostOps1, StableHlo.after_cons, StableHlo.after_nil]
  after_results_steps
  exact congrArg (fun P : FVec Ideal S72x4096x128 .f32 => extractStridedSlice S18x4096x128 ![0, 0, 0] P slices_S72x4096x128_S18x4096x128_0_0_0)
    (Pipeline.withArrays_arr spec0 (by decide) c (V0 m c) (fun w => (dats m (ok m) 0 c).arrAt w (cfgM m (ok m)).N) 2)

end Cert.Kernel3Ideal.Value
-- ==== Proof.Neighbours.lean ====
module

public import proofs.«01_k».proof.Proof.Projection

/-! The combined projection, the call for the two neighbouring chips' columns: the block each grid point writes is the
product of its activations with its chip's weights, and the blocks of the other chips stay as they were. -/

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Kernel4Ideal.Projection

/-- The chip list the host hands over: chip 2, then chip 1. -/
def words : pre0.Contents (Elt Ideal) := fun
  | ⟨0, _⟩ => fun i => lit0 (S2.rowMajor i)
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem adm_eq (m : (ℓ : Loc nD τ sig) → Buf (Elt Ideal) ℓ) : adm m (ok m) = ⟨words, ok_words⟩ := Subtype.ext (tbl_eq m)

/-- The chip whose columns point `t` computes. -/
abbrev chip (t : ℕ) : ℕ := 2 - t / 4

theorem idx_words : ∀ t : Fin grid0.N, cc0_transform_0 (grid0.coords t) = ![t.val % 4, 0]
    ∧ cc0_transform_1 k0_off1_inb numel1_S1 words (grid0.coords t) = ![chip t.val, 0]
    ∧ cc0_transform_3 k0_off1_inb numel1_S1 words (grid0.coords t) = ![chip t.val, t.val % 4, 0] := by decide +kernel

theorem covers_words : ((cfg0 (F := Ideal) ⟨words, ok_words⟩).win 2).CoversWhere (fun β => 1 ≤ β (0 : Fin 3) ∧ β (0 : Fin 3) ≤ 2) := by decide +kernel

/-- What a grid point stores, from the two blocks that it reads. -/
theorem tile (c : Dev nD) (i : grid0.Coords) (a : Memref sig .tc .vmem S1024x1024 .bf16) (ha : a.IsWhole) (b : Memref sig .tc .vmem S2304x1024 .bf16) (hb : b.IsWhole)
    (o : Memref sig .tc .vmem S18x1024x128 .f32) (ho : o.IsWhole) (X : FVec Ideal S1024x1024 .bf16) (W : FVec Ideal S2304x1024 .bf16) (z) (y : S18x1024x128.Idx) :
    out0_A_2 (F := Ideal) c i a ha b hb o ho X W z y = prod X W y := by
  frame_out
  canon_tiles x h
  all_goals exact column X W y x _ (by decide) h1 (by omega)

variable (m : (ℓ : Loc nD τ sig) → Buf (Elt Ideal) ℓ)

theorem after_eq (c : Dev nD) (t : Fin (cfgM m (ok m)).N) (y : S18x1024x128.Idx) :
    outsAt0 m (ok m) c t y = prod (iblk m (ok m) c 0 t) (iblk m (ok m) c 1 t) y := tile ..

theorem index_0 (t : Fin (cfgM m (ok m)).N) : ((cfgM m (ok m)).win 0).index t = ![t.val % 4, 0] := (idx_words t).1

theorem index_1 (t : Fin (cfgM m (ok m)).N) : ((cfgM m (ok m)).win 1).index t = ![chip t.val, 0] := by
  have e : ∀ (pf : pre0.Contents (Elt Ideal)) (h : ok0 pf), pf = words → ((cfg0 ⟨pf, h⟩).win 1).index t = ![chip t.val, 0] := by
    rintro _ h rfl; exact (idx_words t).2.1
  exact e _ _ (tbl_eq m)

theorem index_2 (t : Fin (cfgM m (ok m)).N) : ((cfgM m (ok m)).win 2).index t = ![chip t.val, t.val % 4, 0] := by
  have e : ∀ (pf : pre0.Contents (Elt Ideal)) (h : ok0 pf), pf = words → ((cfg0 ⟨pf, h⟩).win 2).index t = ![chip t.val, t.val % 4, 0] := by
    rintro _ h rfl; exact (idx_words t).2.2
  exact e _ _ (tbl_eq m)

theorem covers : ((cfgM m (ok m)).win 2).CoversWhere (fun β => 1 ≤ β (0 : Fin 3) ∧ β (0 : Fin 3) ≤ 2) := by
  have e : ∀ (pf : pre0.Contents (Elt Ideal)) (h : ok0 pf), pf = words → ((cfg0 ⟨pf, h⟩).win 2).CoversWhere (fun β => 1 ≤ β (0 : Fin 3) ∧ β (0 : Fin 3) ≤ 2) := by
    rintro _ h rfl; exact covers_words
  exact e _ _ (tbl_eq m)

theorem V_activations (c : Dev nD) : V m c main_v18 = activations (m ((c : Thread nD τ).loc main_arg0))
    (m ((c : Thread nD τ).loc main_arg1)) (m ((c : Thread nD τ).loc main_arg2)) (m ((c : Thread nD τ).loc main_arg3)) := by
  entry_read
  rfl

theorem V_given (c : Dev nD) : V m c main_v19 = m ((c : Thread nD τ).loc main_arg5) := by
  entry_read
  rfl

theorem read_0 (c : Dev nD) (t : Fin (cfgM m (ok m)).N) (i k : Fin 1024) :
    iblk m (ok m) c 0 t (ix2 i k) = V m c main_v18 (ix2 ⟨1024 * (t.val % 4) + i, by omega⟩ k) := by
  show V m c main_v18 _ = _
  generalize V m c main_v18 = H
  blk_ext [index_0 m t]

theorem read_1 (c : Dev nD) (t : Fin (cfgM m (ok m)).N) (i : Fin 2304) (k : Fin 1024) :
    iblk m (ok m) c 1 t (ix2 i k) = V m c main_arg4 (ix2 ⟨2304 * chip t.val + i, by unfold chip; omega⟩ k) := by
  show V m c main_arg4 _ = _
  generalize V m c main_arg4 = H
  blk_ext [index_1 m t]

/-- What the call leaves: the two chips' blocks of the projection, and the other blocks as they were. -/
theorem final (c : Dev nD) : (dats m (ok m) 0 c).arrAt 2 (cfgM m (ok m)).N
    = fun i : S72x4096x128.Idx => if 1 ≤ (i 0 : ℕ) / 18 ∧ (i 0 : ℕ) / 18 ≤ 2 then
      projection (V m c main_v18) (V m c main_arg4) i else V m c main_v19 i := by
  refine (dats m (ok m) 0 c).arrAt_eq_of_coversWhere 2 _ (fun β => 1 ≤ β (0 : Fin 3) ∧ β (0 : Fin 3) ≤ 2) (covers m) (fun t hf y => ?_) (fun j => Iff.rfl)
  blk_simp
  rw [after0_2]
  refine (after_eq m c t y).trans ?_
  unfold prod projection
  refine Finset.sum_congr rfl fun k _ => ?_
  refine congrArg₂ (· * ·) ((read_0 m c t _ k).trans ?_) ((read_1 m c t _ k).trans ?_)
  · blk_ext [index_2 m t]
  · blk_ext [index_2 m t]

/-- The reference, from the activations. -/
def REF (H : FVec Ideal S4096x1024 .f32) (W : FVec Ideal S9216x1024 .bf16) (B : FVec Ideal S72x4096x128 .f32) : FVec Ideal S72x4096x128 .f32 :=
  open Cert.Reference4Ideal Cert.Reference4Ideal.Gen in
  concatenate S72x4096x128 0 [⟨S18x4096x128, extractStridedSlice S18x4096x128 ![0, 0, 0] B slices_S72x4096x128_S18x4096x128_0_0_0⟩,
    ⟨S36x4096x128, extractStridedSlice S36x4096x128 ![18, 0, 0] (blocks H W) slices_S72x4096x128_S36x4096x128_18_0_0⟩,
    ⟨S18x4096x128, extractStridedSlice S18x4096x128 ![54, 0, 0] B slices_S72x4096x128_S18x4096x128_54_0_0⟩] concatenates_S18x4096x128_S36x4096x128_S18x4096x128_S72x4096x128_d0

theorem REF_apply (H : FVec Ideal S4096x1024 .f32) (W : FVec Ideal S9216x1024 .bf16) (B : FVec Ideal S72x4096x128 .f32) (i : S72x4096x128.Idx) :
    REF H W B i = if 1 ≤ (i 0 : ℕ) / 18 ∧ (i 0 : ℕ) / 18 ≤ 2 then projection H W i else B i := by
  rw [← blocks_apply]
  unfold REF
  generalize blocks H W = P
  pointwise
  idx_bounds i
  split_ifs with h1 h2 h2 h3 h3
  · omega
  · rfl
  · refine Eq.trans ?_ (if_pos (by omega)).symm
    blk_ext []
  · exact absurd rfl h3
  · refine Eq.trans ?_ (if_neg (by omega)).symm
    blk_ext []
  · exact absurd rfl h3

theorem result (c : Dev nD) : (dats m (ok m) 0 c).arrAt 2 (cfgM m (ok m)).N
    = REF (activations (m ((c : Thread nD τ).loc main_arg0)) (m ((c : Thread nD τ).loc main_arg1)) (m ((c : Thread nD τ).loc main_arg2)) (m ((c : Thread nD τ).loc main_arg3)))
      (m ((c : Thread nD τ).loc main_arg4)) (m ((c : Thread nD τ).loc main_arg5)) := by
  refine (final m c).trans (funext fun i => ?_)
  rw [V_activations, V_given]
  exact (REF_apply _ _ _ i).symm

theorem run (ρ : Dev nD → PrngReg) : θ_run defs (onTc (τ := τ) (main (F := Ideal))) ⟨m, fun _ => 0, ρ⟩ (fun r => ∀ c : Dev nD,
    r.2.mem ((c.tc : Thread nD τ).loc main_v19) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h.1 c).1 2, h.2 c⟩) (θ_run_and (run_main m ρ (ok m)) (unchanged m ρ (ok m)))

end Cert.Kernel4Ideal.Value
-- ==== Proof.Diagonal.lean ====
module

public import proofs.«01_k».proof.Proof.Gen.Kernel5Ideal.Frame
public import proofs.«01_k».proof.Proof.Gen.Reference5Ideal.Run
public import proofs.«01_k».proof.Proof.Projection

/-! The combined projection, the call for the diagonally opposite chip's columns: the block each grid point writes is
the product of its activations with that chip's weights, and the blocks of the other chips stay as they were. -/

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Kernel4Ideal.Projection

/-- The chip list the host hands over: chip 3 alone. -/
def words : pre0.Contents (Elt Ideal) := fun
  | ⟨0, _⟩ => constantI S1 32 3#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem adm_eq (m : (ℓ : Loc nD τ sig) → Buf (Elt Ideal) ℓ) : adm m (ok m) = ⟨words, ok_words⟩ := Subtype.ext (tbl_eq m)

theorem idx_words : ∀ t : Fin grid0.N, cc0_transform_0 (grid0.coords t) = ![t.val % 4, 0]
    ∧ cc0_transform_1 k0_off1_inb numel1_S1 words (grid0.coords t) = ![3, 0]
    ∧ cc0_transform_3 k0_off1_inb numel1_S1 words (grid0.coords t) = ![3, t.val % 4, 0] := by decide +kernel

theorem covers_words : ((cfg0 (F := Ideal) ⟨words, ok_words⟩).win 2).CoversWhere (fun β => β (0 : Fin 3) = 3) := by decide +kernel

/-- What a grid point stores, from the two blocks that it reads. -/
theorem tile (c : Dev nD) (i : grid0.Coords) (a : Memref sig .tc .vmem S1024x1024 .bf16) (ha : a.IsWhole) (b : Memref sig .tc .vmem S2304x1024 .bf16) (hb : b.IsWhole)
    (o : Memref sig .tc .vmem S18x1024x128 .f32) (ho : o.IsWhole) (X : FVec Ideal S1024x1024 .bf16) (W : FVec Ideal S2304x1024 .bf16) (z) (y : S18x1024x128.Idx) :
    out0_A_2 (F := Ideal) c i a ha b hb o ho X W z y = prod X W y := by
  frame_out
  canon_tiles x h
  all_goals exact column X W y x _ (by decide) h1 (by omega)

variable (m : (ℓ : Loc nD τ sig) → Buf (Elt Ideal) ℓ)

theorem after_eq (c : Dev nD) (t : Fin (cfgM m (ok m)).N) (y : S18x1024x128.Idx) :
    outsAt0 m (ok m) c t y = prod (iblk m (ok m) c 0 t) (iblk m (ok m) c 1 t) y := tile ..

theorem index_0 (t : Fin (cfgM m (ok m)).N) : ((cfgM m (ok m)).win 0).index t = ![t.val % 4, 0] := (idx_words t).1

theorem index_1 (t : Fin (cfgM m (ok m)).N) : ((cfgM m (ok m)).win 1).index t = ![3, 0] := by
  have e : ∀ (pf : pre0.Contents (Elt Ideal)) (h : ok0 pf), pf = words → ((cfg0 ⟨pf, h⟩).win 1).index t = ![3, 0] := by
    rintro _ h rfl; exact (idx_words t).2.1
  exact e _ _ (tbl_eq m)

theorem index_2 (t : Fin (cfgM m (ok m)).N) : ((cfgM m (ok m)).win 2).index t = ![3, t.val % 4, 0] := by
  have e : ∀ (pf : pre0.Contents (Elt Ideal)) (h : ok0 pf), pf = words → ((cfg0 ⟨pf, h⟩).win 2).index t = ![3, t.val % 4, 0] := by
    rintro _ h rfl; exact (idx_words t).2.2
  exact e _ _ (tbl_eq m)

theorem covers : ((cfgM m (ok m)).win 2).CoversWhere (fun β => β (0 : Fin 3) = 3) := by
  have e : ∀ (pf : pre0.Contents (Elt Ideal)) (h : ok0 pf), pf = words → ((cfg0 ⟨pf, h⟩).win 2).CoversWhere (fun β => β (0 : Fin 3) = 3) := by
    rintro _ h rfl; exact covers_words
  exact e _ _ (tbl_eq m)

theorem V_activations (c : Dev nD) : V m c main_v18 = activations (m ((c : Thread nD τ).loc main_arg0))
    (m ((c : Thread nD τ).loc main_arg1)) (m ((c : Thread nD τ).loc main_arg2)) (m ((c : Thread nD τ).loc main_arg3)) := by
  entry_read
  rfl

theorem V_given (c : Dev nD) : V m c main_v19 = m ((c : Thread nD τ).loc main_arg5) := by
  entry_read
  rfl

theorem read_0 (c : Dev nD) (t : Fin (cfgM m (ok m)).N) (i k : Fin 1024) :
    iblk m (ok m) c 0 t (ix2 i k) = V m c main_v18 (ix2 ⟨1024 * (t.val % 4) + i, by omega⟩ k) := by
  show V m c main_v18 _ = _
  generalize V m c main_v18 = H
  blk_ext [index_0 m t]

theorem read_1 (c : Dev nD) (t : Fin (cfgM m (ok m)).N) (i : Fin 2304) (k : Fin 1024) :
    iblk m (ok m) c 1 t (ix2 i k) = V m c main_arg4 (ix2 ⟨6912 + i, by omega⟩ k) := by
  show V m c main_arg4 _ = _
  generalize V m c main_arg4 = H
  blk_ext [index_1 m t]

/-- What the call leaves: the chip's blocks of the projection, and the other blocks as they were. -/
theorem final (c : Dev nD) : (dats m (ok m) 0 c).arrAt 2 (cfgM m (ok m)).N
    = fun i : S72x4096x128.Idx => if (i 0 : ℕ) / 18 = 3 then
      projection (V m c main_v18) (V m c main_arg4) i else V m c main_v19 i := by
  refine (dats m (ok m) 0 c).arrAt_eq_of_coversWhere 2 _ (fun β => β (0 : Fin 3) = 3) (covers m) (fun t hf y => ?_) (fun j => Iff.rfl)
  blk_simp
  rw [after0_2]
  refine (after_eq m c t y).trans ?_
  unfold prod projection
  refine Finset.sum_congr rfl fun k _ => ?_
  refine congrArg₂ (· * ·) ((read_0 m c t _ k).trans ?_) ((read_1 m c t _ k).trans ?_)
  · blk_ext [index_2 m t]
  · blk_ext [index_2 m t]

/-- The reference, from the activations. -/
def REF (H : FVec Ideal S4096x1024 .f32) (W : FVec Ideal S9216x1024 .bf16) (B : FVec Ideal S72x4096x128 .f32) : FVec Ideal S72x4096x128 .f32 :=
  open Cert.Reference5Ideal Cert.Reference5Ideal.Gen in
  concatenate S72x4096x128 0 [⟨S54x4096x128, extractStridedSlice S54x4096x128 ![0, 0, 0] B slices_S72x4096x128_S54x4096x128_0_0_0⟩,
    ⟨S18x4096x128, extractStridedSlice S18x4096x128 ![54, 0, 0] (blocks H W) slices_S72x4096x128_S18x4096x128_54_0_0⟩] concatenates_S54x4096x128_S18x4096x128_S72x4096x128_d0

theorem REF_apply (H : FVec Ideal S4096x1024 .f32) (W : FVec Ideal S9216x1024 .bf16) (B : FVec Ideal S72x4096x128 .f32) (i : S72x4096x128.Idx) :
    REF H W B i = if (i 0 : ℕ) / 18 = 3 then projection H W i else B i := by
  rw [← blocks_apply]
  unfold REF
  generalize blocks H W = P
  pointwise
  idx_bounds i
  split_ifs with h1 h2 h3
  · omega
  · rfl
  · refine Eq.trans ?_ (if_pos (by omega)).symm
    blk_ext []
  · exact absurd rfl h3

theorem result (c : Dev nD) : (dats m (ok m) 0 c).arrAt 2 (cfgM m (ok m)).N
    = REF (activations (m ((c : Thread nD τ).loc main_arg0)) (m ((c : Thread nD τ).loc main_arg1)) (m ((c : Thread nD τ).loc main_arg2)) (m ((c : Thread nD τ).loc main_arg3)))
      (m ((c : Thread nD τ).loc main_arg4)) (m ((c : Thread nD τ).loc main_arg5)) := by
  refine (final m c).trans (funext fun i => ?_)
  rw [V_activations, V_given]
  exact (REF_apply _ _ _ i).symm

theorem run (ρ : Dev nD → PrngReg) : θ_run defs (onTc (τ := τ) (main (F := Ideal))) ⟨m, fun _ => 0, ρ⟩ (fun r => ∀ c : Dev nD,
    r.2.mem ((c.tc : Thread nD τ).loc main_v19) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h.1 c).1 2, h.2 c⟩) (θ_run_and (run_main m ρ (ok m)) (unchanged m ρ (ok m)))

end Cert.Kernel5Ideal.Value
-- ==== Proof.ChipLists.lean ====
module

public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel10.Frame
public import Idealize.ShloMosaic.Lib.Pipeline.ValueKit

/-! The chip lists of the three calls of the projection and of the optimiser's calls, and the place of the device on
its chip, name blocks inside their arrays, whatever the memory holds: the host writes each list itself. -/

@[expose] public section

set_option maxRecDepth 16384

noncomputable section

open Idealize.ShloMosaic Idealize.ShloMosaic.TcCoe Idealize.SL.Sem

namespace Cert.Kernel3.Value

open Cert.Kernel3 Cert.Kernel3.Gen

/-- The chip list the host hands over: chip 0. -/
def words : pre0.Contents (Elt Bits) := fun
  | ⟨0, _⟩ => constantI S1 32 0#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel3.Value

namespace Cert.Kernel4.Value

open Cert.Kernel4 Cert.Kernel4.Gen

/-- The chip list the host hands over: chip 2, then chip 1. -/
def words : pre0.Contents (Elt Bits) := fun
  | ⟨0, _⟩ => fun i => lit0 (S2.rowMajor i)
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel4.Value

namespace Cert.Kernel5.Value

open Cert.Kernel5 Cert.Kernel5.Gen

/-- The chip list the host hands over: chip 3. -/
def words : pre0.Contents (Elt Bits) := fun
  | ⟨0, _⟩ => constantI S1 32 3#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel5.Value

namespace Cert.Kernel6.Value

open Cert.Kernel6 Cert.Kernel6.Gen

/-- The chip list the host hands over: chip 0. -/
def words : pre0.Contents (Elt Bits) := fun
  | ⟨0, _⟩ => constantI S1 32 0#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel6.Value

namespace Cert.Kernel7.Value

open Cert.Kernel7 Cert.Kernel7.Gen

/-- The chip list the host hands over: chip 0. -/
def words : pre0.Contents (Elt Bits) := fun
  | ⟨0, _⟩ => constantI S1 32 0#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel7.Value

namespace Cert.Kernel8.Value

open Cert.Kernel8 Cert.Kernel8.Gen

/-- The chip list the host hands over: chip 0. -/
def words : pre0.Contents (Elt Bits) := fun
  | ⟨0, _⟩ => constantI S1 32 0#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel8.Value

namespace Cert.Kernel10.Value

open Cert.Kernel10 Cert.Kernel10.Gen

/-- The place on the chip that the host hands over: 0. -/
def words : pre0.Contents (Elt Bits) := fun
  | ⟨0, _⟩ => constantI S1 32 0#32
  | ⟨_ + 1, h⟩ => absurd h (by simp)

theorem ok (m : (ℓ : Loc nD τ sig) → Buf (Elt Bits) ℓ) : Ok m := by
  have e : tbl m = words := by
    funext j
    match j with
    | ⟨0, _⟩ =>
      show V m 0 main_c = _
      entry_read
      rfl
  unfold Ok
  rw [e]
  decide

end Cert.Kernel10.Value

end
-- ==== Proof.Adam.lean ====
module

public import Idealize.ShloMosaic.Lib.Pipeline.ValueKit

/-! One step of the optimiser (AdamW) at one entry of a parameter, from the parameter `w`, its gradient `g` and its two
moments `m` and `v`. The rates are float words. -/

@[expose] public section

noncomputable section

open Idealize.ShloMosaic

namespace Cert.Adam

/-- The new first moment: `0.9 m + 0.1 g`. -/
def first (g m : Ideal .f32) : Ideal .f32 := Ideal.ofBits .f32 0x3F666666#32 * m + Ideal.ofBits .f32 0x3DCCCCCD#32 * g

/-- The new second moment: `0.999 v + 0.001 g²`. -/
def second (g v : Ideal .f32) : Ideal .f32 := Ideal.ofBits .f32 0x3F7FBE77#32 * v + Ideal.ofBits .f32 0x3A83126F#32 * (g * g)

/-- The change of the parameter: `-0.001 (m / (1 - 0.9¹⁰) / (√(v / (1 - 0.999¹⁰)) + 1e-8) + 0.01 w)`, with the new moments. -/
def delta (w g m v : Ideal .f32) : Ideal .f32 := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

theorem first_congr {g g' m m' : Ideal .f32} (hg : g = g') (hm : m = m') : first g m = first g' m' := by rw [hg, hm]

theorem second_congr {g g' v v' : Ideal .f32} (hg : g = g') (hv : v = v') : second g v = second g' v' := by rw [hg, hv]

theorem delta_congr {w w' g g' m m' v v' : Ideal .f32} (hw : w = w') (hg : g = g') (hm : m = m') (hv : v = v') :
    delta w g m v = delta w' g' m' v' := by rw [hw, hg, hm, hv]

end Cert.Adam
-- ==== Proof.AdamIn.lean ====
module

public import proofs.«01_k».proof.Proof.Gen.Kernel6Ideal.Frame
public import proofs.«01_k».proof.Proof.Gen.Reference6Ideal.Run
public import proofs.«01_k».proof.Proof.Adam

/-! The optimiser's step for a chip's shard of the projection's weight. -/

@[expose] public section

set_option maxRecDepth 16384

noncomputable section

open Idealize.ShloMosaic Idealize.ShloMosaic.TcCoe Idealize.SL.Sem
open Idealize.ShloMosaic.Pipeline (Dat)

namespace Cert.Reference6Ideal.Value

open Cert.Reference6Ideal Cert.Reference6Ideal.Gen Cert.Adam

/-- The gradient: the chip's own part and the three received parts, joined and summed. -/
def grad (P : FVec Ideal S4x1024x1152 .bf16) (Q : FVec Ideal S3x1024x1152 .bf16) : FVec Ideal S1024x1152 .f32 :=
  Host.reduceAdd (extf .f32 (concatenate S4x1024x1152 0 [⟨S1x1024x1152, (extractStridedSlice S1x1024x1152 ![0, 0, 0] P slices_S4x1024x1152_S1x1024x1152_0_0_0)⟩, ⟨S3x1024x1152, Q⟩] concatenates_S1x1024x1152_S3x1024x1152_S4x1024x1152_d0) bitsLt_bf16_f32) (constant (F := Ideal) S_ .f32 0x00000000#32) reducesTo_S4x1024x1152_S1024x1152_d0 h_S_

theorem grad_apply (P : FVec Ideal S4x1024x1152 .bf16) (Q : FVec Ideal S3x1024x1152 .bf16) (i : Fin 1024) (j : Fin 1152) :
    grad P Q (ix2 i j) = P (ix3 0 i j) + Q (ix3 0 i j) + Q (ix3 1 i j) + Q (ix3 2 i j) := by
  unfold grad
  pointwise
  rw [Fin.sum_univ_one, Fin.sum_univ_three]
  simp only [add_assoc]

/-- The new first moment. -/
def newM (G M : FVec Ideal S1024x1152 .f32) : FVec Ideal S1024x1152 .f32 :=
  addf (mulf (broadcastInDim S1024x1152 ![] bcast_S_S1024x1152 (constant (F := Ideal) S_ .f32 0x3F666666#32)) M) (mulf (broadcastInDim S1024x1152 ![] bcast_S_S1024x1152 (constant (F := Ideal) S_ .f32 0x3DCCCCCD#32)) G)

theorem newM_apply (G M : FVec Ideal S1024x1152 .f32) (y : S1024x1152.Idx) : newM G M y = first (G y) (M y) := by
  unfold newM first
  pointwise

/-- The new second moment. -/
def newV (G N : FVec Ideal S1024x1152 .f32) : FVec Ideal S1024x1152 .f32 :=
  addf (mulf (broadcastInDim S1024x1152 ![] bcast_S_S1024x1152 (constant (F := Ideal) S_ .f32 0x3F7FBE77#32)) N) (mulf (broadcastInDim S1024x1152 ![] bcast_S_S1024x1152 (constant (F := Ideal) S_ .f32 0x3A83126F#32)) (mulf G G))

theorem newV_apply (G N : FVec Ideal S1024x1152 .f32) (y : S1024x1152.Idx) : newV G N y = second (G y) (N y) := by
  unfold newV second
  pointwise

/-- The change of the weight. -/
def change (W G M N : FVec Ideal S1024x1152 .f32) : FVec Ideal S1024x1152 .f32 :=
  mulf (broadcastInDim S1024x1152 ![] bcast_S_S1024x1152 (constant (F := Ideal) S_ .f32 0xBA83126F#32)) (addf (Host.divf (Host.divf (newM G M) (broadcastInDim S1024x1152 ![] bcast_S_S1024x1152 (constant (F := Ideal) S_ .f32 0x3F26BD02#32))) (addf (Host.sqrt (Host.divf (newV G N) (broadcastInDim S1024x1152 ![] bcast_S_S1024x1152 (constant (F := Ideal) S_ .f32 0x3C231ACC#32)))) (broadcastInDim S1024x1152 ![] bcast_S_S1024x1152 (constant (F := Ideal) S_ .f32 0x322BCC77#32)))) (mulf (broadcastInDim S1024x1152 ![] bcast_S_S1024x1152 (constant (F := Ideal) S_ .f32 0x3C23D70A#32)) W))

theorem change_apply (W G M N : FVec Ideal S1024x1152 .f32) (y : S1024x1152.Idx) : change W G M N y = delta (W y) (G y) (M y) (N y) := by
  unfold change delta
  rw [← newM_apply, ← newV_apply]
  generalize newM G M = A
  generalize newV G N = B
  pointwise

end Cert.Reference6Ideal.Value

namespace Cert.Kernel6Ideal.Value

open Cert.Kernel6Ideal Cert.Kernel6Ideal.Gen Cert.Adam

/-- The chip list the host hands over: chip 0. -/
def words : pre0.Contents (Elt Ideal) := fun
  | ⟨0, _⟩ => constantI S1 32 0#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem idx_words : ∀ t : Fin grid0.N, cc0_transform_0 inb_S1_S1_0 numel1_S1 words (grid0.coords t) = ![0, t.val % 4, 0]
    ∧ cc0_transform_1 (grid0.coords t) = ![0, t.val % 4, 0] ∧ cc0_transform_2 (grid0.coords t) = ![1, t.val % 4, 0]
    ∧ cc0_transform_3 (grid0.coords t) = ![2, t.val % 4, 0]
    ∧ cc0_transform_4 (grid0.coords t) = ![t.val % 4, 0] := by decide +kernel

/-- The gradient at a grid point: the sum of the four parts. -/
theorem grad_apply (A B C D : FVec Ideal S1x256x1152 .bf16) (i : Fin 256) (j : Fin 1152) :
    k0_pay2 (F := Ideal) A B C D (ix2 i j) = A (ix3 0 i j) + B (ix3 0 i j) + C (ix3 0 i j) + D (ix3 0 i j) := by
  unfold k0_pay2
  pointwise

theorem first_apply (A B C D : FVec Ideal S1x256x1152 .bf16) (M : FVec Ideal S256x1152 .f32) (y : S256x1152.Idx) :
    k0_pay3 (F := Ideal) A B C D M y = first (k0_pay2 (F := Ideal) A B C D y) (M y) := by
  unfold k0_pay3 first
  generalize k0_pay2 (F := Ideal) A B C D = G
  pointwise

theorem second_apply (A B C D : FVec Ideal S1x256x1152 .bf16) (M : FVec Ideal S256x1152 .f32) (y : S256x1152.Idx) :
    k0_pay4 (F := Ideal) A B C D M y = second (k0_pay2 (F := Ideal) A B C D y) (M y) := by
  unfold k0_pay4 second
  generalize k0_pay2 (F := Ideal) A B C D = G
  pointwise

theorem delta_apply (A B C D : FVec Ideal S1x256x1152 .bf16) (W M N : FVec Ideal S256x1152 .f32) (y : S256x1152.Idx) :
    k0_pay1 (F := Ideal) W (k0_pay4 (F := Ideal) A B C D N) (k0_pay5 (F := Ideal) A B C D M) (Scalar.ofBits .f32 0x3C231ACC#32) y
      = delta (W y) (k0_pay2 (F := Ideal) A B C D y) (M y) (N y) := by
  unfold k0_pay1 k0_pay5 delta
  rw [← first_apply, ← second_apply]
  generalize k0_pay3 (F := Ideal) A B C D M = P
  generalize k0_pay4 (F := Ideal) A B C D N = Q
  pointwise

section Tile

variable (c : Dev nD) (i : grid0.Coords)
  (a0 : Memref sig .tc .vmem S1x256x1152 .bf16) (h0 : a0.IsWhole)
  (a1 : Memref sig .tc .vmem S1x256x1152 .bf16) (h1 : a1.IsWhole)
  (a2 : Memref sig .tc .vmem S1x256x1152 .bf16) (h2 : a2.IsWhole)
  (a3 : Memref sig .tc .vmem S1x256x1152 .bf16) (h3 : a3.IsWhole)
  (a4 : Memref sig .tc .vmem S256x1152 .f32) (h4 : a4.IsWhole)
  (a5 : Memref sig .tc .vmem S256x1152 .f32) (h5 : a5.IsWhole)
  (a6 : Memref sig .tc .vmem S256x1152 .f32) (h6 : a6.IsWhole)
  (a7 : Memref sig .tc .vmem S256x1152 .f32) (h7 : a7.IsWhole)
  (a8 : Memref sig .tc .vmem S256x1152 .f32) (h8 : a8.IsWhole)
  (a9 : Memref sig .tc .vmem S256x1152 .f32) (h9 : a9.IsWhole)
  (a10 : Memref sig .tc .vmem S256x1152 .f32) (h10 : a10.IsWhole)
  (X0 X1 X2 X3 : FVec Ideal S1x256x1152 .bf16) (W M N : FVec Ideal S256x1152 .f32) (z : TbBuf0 (F := Ideal) c tbM0_0) (y : S256x1152.Idx)

/-- What a grid point stores: the gradient, -/
theorem tile_7 : out0_A_7 (F := Ideal) c i a0 h0 a1 h1 a2 h2 a3 h3 a4 h4 a5 h5 a6 h6 a7 h7 a8 h8 a9 h9 a10 h10 X0 X1 X2 X3 W M N z y = k0_pay2 (F := Ideal) X0 X1 X2 X3 y := by
  frame_out

/-- the change of the weight, -/
theorem tile_8 : out0_A_8 (F := Ideal) c i a0 h0 a1 h1 a2 h2 a3 h3 a4 h4 a5 h5 a6 h6 a7 h7 a8 h8 a9 h9 a10 h10 X0 X1 X2 X3 W M N z y
    = delta (W y) (k0_pay2 (F := Ideal) X0 X1 X2 X3 y) (M y) (N y) := by
  rw [← delta_apply]
  frame_out

/-- the new first moment -/
theorem tile_9 : out0_A_9 (F := Ideal) c i a0 h0 a1 h1 a2 h2 a3 h3 a4 h4 a5 h5 a6 h6 a7 h7 a8 h8 a9 h9 a10 h10 X0 X1 X2 X3 W M N z y
    = first (k0_pay2 (F := Ideal) X0 X1 X2 X3 y) (M y) := by
  rw [← first_apply]
  frame_out

/-- and the new second moment. -/
theorem tile_10 : out0_A_10 (F := Ideal) c i a0 h0 a1 h1 a2 h2 a3 h3 a4 h4 a5 h5 a6 h6 a7 h7 a8 h8 a9 h9 a10 h10 X0 X1 X2 X3 W M N z y
    = second (k0_pay2 (F := Ideal) X0 X1 X2 X3 y) (N y) := by
  rw [← second_apply]
  frame_out

end Tile

variable (m : (ℓ : Loc nD τ sig) → Buf (Elt Ideal) ℓ)

/-- The gradient's block at a grid point. -/
def part (c : Dev nD) (t : Fin (cfgM m (ok m)).N) : FVec Ideal S256x1152 .f32 :=
  k0_pay2 (F := Ideal) (iblk m (ok m) c 0 t) (iblk m (ok m) c 1 t) (iblk m (ok m) c 2 t) (iblk m (ok m) c 3 t)

theorem after_7 (c : Dev nD) (t : Fin (cfgM m (ok m)).N) (y : S256x1152.Idx) : (outsAt0 m (ok m) c t).1 y = part m c t y := by
  unfold outsAt0 part; dsimp only; exact tile_7 ..

theorem after_8 (c : Dev nD) (t : Fin (cfgM m (ok m)).N) (y : S256x1152.Idx) : (outsAt0 m (ok m) c t).2.1 y
    = delta (iblk m (ok m) c 4 t y) (part m c t y) (iblk m (ok m) c 5 t y) (iblk m (ok m) c 6 t y) := by
  unfold outsAt0 part; dsimp only; exact tile_8 ..

theorem after_9 (c : Dev nD) (t : Fin (cfgM m (ok m)).N) (y : S256x1152.Idx) : (outsAt0 m (ok m) c t).2.2.1 y
    = first (part m c t y) (iblk m (ok m) c 5 t y) := by
  unfold outsAt0 part; dsimp only; exact tile_9 ..

theorem after_10 (c : Dev nD) (t : Fin (cfgM m (ok m)).N) (y : S256x1152.Idx) : (outsAt0 m (ok m) c t).2.2.2 y
    = second (part m c t y) (iblk m (ok m) c 6 t y) := by
  unfold outsAt0 part; dsimp only; exact tile_10 ..

theorem index_0 (t : Fin (cfgM m (ok m)).N) : ((cfgM m (ok m)).win 0).index t = ![0, t.val % 4, 0] := by
  have e : ∀ (pf : pre0.Contents (Elt Ideal)) (h : ok0 pf), pf = words → ((cfg0 ⟨pf, h⟩).win 0).index t = ![0, t.val % 4, 0] := by
    rintro _ h rfl; exact (idx_words t).1
  exact e _ _ (tbl_eq m)

theorem index_1 (t : Fin (cfgM m (ok m)).N) : ((cfgM m (ok m)).win 1).index t = ![0, t.val % 4, 0] := (idx_words t).2.1
theorem index_2 (t : Fin (cfgM m (ok m)).N) : ((cfgM m (ok m)).win 2).index t = ![1, t.val % 4, 0] := (idx_words t).2.2.1
theorem index_3 (t : Fin (cfgM m (ok m)).N) : ((cfgM m (ok m)).win 3).index t = ![2, t.val % 4, 0] := (idx_words t).2.2.2.1
theorem index_4 (t : Fin (cfgM m (ok m)).N) : ((cfgM m (ok m)).win 4).index t = ![t.val % 4, 0] := (idx_words t).2.2.2.2
theorem index_5 (t : Fin (cfgM m (ok m)).N) : ((cfgM m (ok m)).win 5).index t = ![t.val % 4, 0] := (idx_words t).2.2.2.2
theorem index_6 (t : Fin (cfgM m (ok m)).N) : ((cfgM m (ok m)).win 6).index t = ![t.val % 4, 0] := (idx_words t).2.2.2.2
theorem index_7 (t : Fin (cfgM m (ok m)).N) : ((cfgM m (ok m)).win 7).index t = ![t.val % 4, 0] := (idx_words t).2.2.2.2
theorem index_8 (t : Fin (cfgM m (ok m)).N) : ((cfgM m (ok m)).win 8).index t = ![t.val % 4, 0] := (idx_words t).2.2.2.2
theorem index_9 (t : Fin (cfgM m (ok m)).N) : ((cfgM m (ok m)).win 9).index t = ![t.val % 4, 0] := (idx_words t).2.2.2.2
theorem index_10 (t : Fin (cfgM m (ok m)).N) : ((cfgM m (ok m)).win 10).index t = ![t.val % 4, 0] := (idx_words t).2.2.2.2

/-- The chip's own part among the parts of all chips. -/
abbrev own (c : Dev nD) : FVec Ideal S4x1024x1152 .bf16 := V m c main_arg0
/-- The parts received from the other chips. -/
abbrev received (c : Dev nD) : FVec Ideal S3x1024x1152 .bf16 := V m c main_arg1
abbrev weight (c : Dev nD) : FVec Ideal S1024x1152 .f32 := V m c main_arg2
abbrev moment1 (c : Dev nD) : FVec Ideal S1024x1152 .f32 := V m c main_arg3
abbrev moment2 (c : Dev nD) : FVec Ideal S1024x1152 .f32 := V m c main_arg4
/-- The gradient as the reference sums it. -/
abbrev grad (c : Dev nD) : FVec Ideal S1024x1152 .f32 := Cert.Reference6Ideal.Value.grad (own m c) (received m c)

theorem read_0 (c : Dev nD) (t : Fin (cfgM m (ok m)).N) (i : Fin 256) (j : Fin 1152) :
    iblk m (ok m) c 0 t (ix3 0 i j) = own m c (ix3 0 ⟨256 * (t.val % 4) + i, by omega⟩ j) := by
  show V m c main_arg0 _ = _
  unfold own
  generalize V m c main_arg0 = H
  blk_ext [index_0 m t]

theorem read_1 (c : Dev nD) (t : Fin (cfgM m (ok m)).N) (i : Fin 256) (j : Fin 1152) :
    iblk m (ok m) c 1 t (ix3 0 i j) = received m c (ix3 0 ⟨256 * (t.val % 4) + i, by omega⟩ j) := by
  show V m c main_arg1 _ = _
  unfold received
  generalize V m c main_arg1 = H
  blk_ext [index_1 m t]

theorem read_2 (c : Dev nD) (t : Fin (cfgM m (ok m)).N) (i : Fin 256) (j : Fin 1152) :
    iblk m (ok m) c 2 t (ix3 0 i j) = received m c (ix3 1 ⟨256 * (t.val % 4) + i, by omega⟩ j) := by
  show V m c main_arg1 _ = _
  unfold received
  generalize V m c main_arg1 = H
  blk_ext [index_2 m t]

theorem read_3 (c : Dev nD) (t : Fin (cfgM m (ok m)).N) (i : Fin 256) (j : Fin 1152) :
    iblk m (ok m) c 3 t (ix3 0 i j) = received m c (ix3 2 ⟨256 * (t.val % 4) + i, by omega⟩ j) := by
  show V m c main_arg1 _ = _
  unfold received
  generalize V m c main_arg1 = H
  blk_ext [index_3 m t]

/-- Where an entry of a grid point's block lies in the whole array. -/
def place (t : ℕ) (y : S256x1152.Idx) : S1024x1152.Idx :=
  ix2 (⟨256 * (t % 4) + (y 0 : ℕ), by have h : (y 0 : ℕ) < 256 := (y 0).isLt; omega⟩ : Fin 1024) (⟨(y 1 : ℕ), (y 1).isLt⟩ : Fin 1152)

theorem read_4 (c : Dev nD) (t : Fin (cfgM m (ok m)).N) (y : S256x1152.Idx) : iblk m (ok m) c 4 t y = weight m c (place t y) := by
  show V m c main_arg2 _ = _
  unfold weight
  generalize V m c main_arg2 = H
  unfold place
  blk_ext [index_4 m t]

theorem read_5 (c : Dev nD) (t : Fin (cfgM m (ok m)).N) (y : S256x1152.Idx) : iblk m (ok m) c 5 t y = moment1 m c (place t y) := by
  show V m c main_arg3 _ = _
  unfold moment1
  generalize V m c main_arg3 = H
  unfold place
  blk_ext [index_5 m t]

theorem read_6 (c : Dev nD) (t : Fin (cfgM m (ok m)).N) (y : S256x1152.Idx) : iblk m (ok m) c 6 t y = moment2 m c (place t y) := by
  show V m c main_arg4 _ = _
  unfold moment2
  generalize V m c main_arg4 = H
  unfold place
  blk_ext [index_6 m t]

theorem part_apply (c : Dev nD) (t : Fin (cfgM m (ok m)).N) (i : Fin 256) (j : Fin 1152) :
    part m c t (ix2 i j) = grad m c (ix2 ⟨256 * (t.val % 4) + i, by omega⟩ j) := by
  refine (grad_apply ..).trans (Eq.trans ?_ (Cert.Reference6Ideal.Value.grad_apply ..).symm)
  rw [read_0, read_1, read_2, read_3]

theorem part_place (c : Dev nD) (t : Fin (cfgM m (ok m)).N) (y : S256x1152.Idx) : part m c t y = grad m c (place t y) := by
  obtain ⟨i, j, rfl⟩ : ∃ (i : Fin 256) (j : Fin 1152), y = ix2 i j := ⟨y 0, y 1, funext fun | ⟨0, _⟩ => rfl | ⟨1, _⟩ => rfl⟩
  exact part_apply m c t i j

/-- The blocks cover each result. -/
theorem covers_words : ((cfg0 (F := Ideal) ⟨words, ok_words⟩).win 7).Covers ∧ ((cfg0 (F := Ideal) ⟨words, ok_words⟩).win 8).Covers
    ∧ ((cfg0 (F := Ideal) ⟨words, ok_words⟩).win 9).Covers ∧ ((cfg0 (F := Ideal) ⟨words, ok_words⟩).win 10).Covers := by decide +kernel

theorem covers : ((cfgM m (ok m)).win 7).Covers ∧ ((cfgM m (ok m)).win 8).Covers
    ∧ ((cfgM m (ok m)).win 9).Covers ∧ ((cfgM m (ok m)).win 10).Covers := by
  have e : ∀ (pf : pre0.Contents (Elt Ideal)) (h : ok0 pf), pf = words → ((cfg0 ⟨pf, h⟩).win 7).Covers ∧ ((cfg0 ⟨pf, h⟩).win 8).Covers
      ∧ ((cfg0 ⟨pf, h⟩).win 9).Covers ∧ ((cfg0 ⟨pf, h⟩).win 10).Covers := by
    rintro _ h rfl; exact covers_words
  exact e _ _ (tbl_eq m)

/-- What the call leaves: the gradient, -/
theorem final_7 (c : Dev nD) : (dats m (ok m) 0 c).arrAt 7 (cfgM m (ok m)).N = grad m c := by
  refine (dats m (ok m) 0 c).arrAt_eq_of_covers 7 _ (covers m).1 fun t hf y => ?_
  blk_simp
  rw [after0_7]
  refine (after_7 m c t y).trans ((part_place m c t y).trans ?_)
  generalize grad m c = G
  unfold place
  blk_ext [index_7 m t]

/-- the change of the weight, -/
theorem final_8 (c : Dev nD) : (dats m (ok m) 0 c).arrAt 8 (cfgM m (ok m)).N = Cert.Reference6Ideal.Value.change (weight m c) (grad m c) (moment1 m c) (moment2 m c) := by
  refine (dats m (ok m) 0 c).arrAt_eq_of_covers 8 _ (covers m).2.1 fun t hf y => ?_
  blk_simp
  rw [after0_8]
  refine (after_8 m c t y).trans ((delta_congr (read_4 m c t y) (part_place m c t y) (read_5 m c t y) (read_6 m c t y)).trans
    ((Cert.Reference6Ideal.Value.change_apply ..).symm.trans ?_))
  generalize Cert.Reference6Ideal.Value.change _ _ _ _ = H
  unfold place
  blk_ext [index_8 m t]

/-- the new first moment -/
theorem final_9 (c : Dev nD) : (dats m (ok m) 0 c).arrAt 9 (cfgM m (ok m)).N = Cert.Reference6Ideal.Value.newM (grad m c) (moment1 m c) := by
  refine (dats m (ok m) 0 c).arrAt_eq_of_covers 9 _ (covers m).2.2.1 fun t hf y => ?_
  blk_simp
  rw [after0_9]
  refine (after_9 m c t y).trans ((first_congr (part_place m c t y) (read_5 m c t y)).trans
    ((Cert.Reference6Ideal.Value.newM_apply ..).symm.trans ?_))
  generalize Cert.Reference6Ideal.Value.newM _ _ = H
  unfold place
  blk_ext [index_9 m t]

/-- and the new second moment. -/
theorem final_10 (c : Dev nD) : (dats m (ok m) 0 c).arrAt 10 (cfgM m (ok m)).N = Cert.Reference6Ideal.Value.newV (grad m c) (moment2 m c) := by
  refine (dats m (ok m) 0 c).arrAt_eq_of_covers 10 _ (covers m).2.2.2 fun t hf y => ?_
  blk_simp
  rw [after0_10]
  refine (after_10 m c t y).trans ((second_congr (part_place m c t y) (read_6 m c t y)).trans
    ((Cert.Reference6Ideal.Value.newV_apply ..).symm.trans ?_))
  generalize Cert.Reference6Ideal.Value.newV _ _ = H
  unfold place
  blk_ext [index_10 m t]

theorem run (ρ : Dev nD → PrngReg) : θ_run defs (onTc (τ := τ) (main (F := Ideal))) ⟨m, fun _ => 0, ρ⟩ (fun r => ∀ c : Dev nD,
    r.2.mem ((c.tc : Thread nD τ).loc main_v0_0) = (dats m (ok m) 0 c).arrAt 7 (cfgM m (ok m)).N
      ∧ r.2.mem ((c.tc : Thread nD τ).loc main_v0_1) = (dats m (ok m) 0 c).arrAt 8 (cfgM m (ok m)).N
      ∧ r.2.mem ((c.tc : Thread nD τ).loc main_v0_2) = (dats m (ok m) 0 c).arrAt 9 (cfgM m (ok m)).N
      ∧ r.2.mem ((c.tc : Thread nD τ).loc main_v0_3) = (dats m (ok m) 0 c).arrAt 10 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h.1 c).1 7, (h.1 c).1 8, (h.1 c).1 9, (h.1 c).1 10, h.2 c⟩) (θ_run_and (run_main m ρ (ok m)) (unchanged m ρ (ok m)))

/-- The call reads the arguments as they were at the start. -/
theorem arguments (c : Dev nD) : own m c = m ((c : Thread nD τ).loc main_arg0) ∧ received m c = m ((c : Thread nD τ).loc main_arg1)
    ∧ weight m c = m ((c : Thread nD τ).loc main_arg2) ∧ moment1 m c = m ((c : Thread nD τ).loc main_arg3)
    ∧ moment2 m c = m ((c : Thread nD τ).loc main_arg4) := by
  refine ⟨?_, ?_, ?_, ?_, ?_⟩ <;> (first | unfold own | unfold received | unfold weight | unfold moment1 | unfold moment2) <;> entry_read <;> rfl

end Cert.Kernel6Ideal.Value
-- ==== Proof.AdamOut.lean ====
module

public import proofs.«01_k».proof.Proof.Gen.Kernel7Ideal.Frame
public import proofs.«01_k».proof.Proof.Gen.Reference7Ideal.Run
public import proofs.«01_k».proof.Proof.Adam

/-! The optimiser's step for a chip's shard of the output product's weight. -/

@[expose] public section

set_option maxRecDepth 16384

noncomputable section

open Idealize.ShloMosaic Idealize.ShloMosaic.TcCoe Idealize.SL.Sem
open Idealize.ShloMosaic.Pipeline (Dat)

namespace Cert.Reference7Ideal.Value

open Cert.Reference7Ideal Cert.Reference7Ideal.Gen Cert.Adam

/-- The gradient: the chip's own part and the three received parts, joined and summed. -/
def grad (P : FVec Ideal S4x128x1024 .f32) (Q : FVec Ideal S3x128x1024 .f32) : FVec Ideal S128x1024 .f32 :=
  Host.reduceAdd (concatenate S4x128x1024 0 [⟨S1x128x1024, (extractStridedSlice S1x128x1024 ![0, 0, 0] P slices_S4x128x1024_S1x128x1024_0_0_0)⟩, ⟨S3x128x1024, Q⟩] concatenates_S1x128x1024_S3x128x1024_S4x128x1024_d0) (constant (F := Ideal) S_ .f32 0x00000000#32) reducesTo_S4x128x1024_S128x1024_d0 h_S_

theorem grad_apply (P : FVec Ideal S4x128x1024 .f32) (Q : FVec Ideal S3x128x1024 .f32) (i : Fin 128) (j : Fin 1024) :
    grad P Q (ix2 i j) = P (ix3 0 i j) + Q (ix3 0 i j) + Q (ix3 1 i j) + Q (ix3 2 i j) := by
  unfold grad
  pointwise
  rw [Fin.sum_univ_one, Fin.sum_univ_three]
  simp only [add_assoc]

/-- The new first moment. -/
def newM (G M : FVec Ideal S128x1024 .f32) : FVec Ideal S128x1024 .f32 :=
  addf (mulf (broadcastInDim S128x1024 ![] bcast_S_S128x1024 (constant (F := Ideal) S_ .f32 0x3F666666#32)) M) (mulf (broadcastInDim S128x1024 ![] bcast_S_S128x1024 (constant (F := Ideal) S_ .f32 0x3DCCCCCD#32)) G)

theorem newM_apply (G M : FVec Ideal S128x1024 .f32) (y : S128x1024.Idx) : newM G M y = first (G y) (M y) := by
  unfold newM first
  pointwise

/-- The new second moment. -/
def newV (G N : FVec Ideal S128x1024 .f32) : FVec Ideal S128x1024 .f32 :=
  addf (mulf (broadcastInDim S128x1024 ![] bcast_S_S128x1024 (constant (F := Ideal) S_ .f32 0x3F7FBE77#32)) N) (mulf (broadcastInDim S128x1024 ![] bcast_S_S128x1024 (constant (F := Ideal) S_ .f32 0x3A83126F#32)) (mulf G G))

theorem newV_apply (G N : FVec Ideal S128x1024 .f32) (y : S128x1024.Idx) : newV G N y = second (G y) (N y) := by
  unfold newV second
  pointwise

/-- The change of the weight. -/
def change (W G M N : FVec Ideal S128x1024 .f32) : FVec Ideal S128x1024 .f32 :=
  mulf (broadcastInDim S128x1024 ![] bcast_S_S128x1024 (constant (F := Ideal) S_ .f32 0xBA83126F#32)) (addf (Host.divf (Host.divf (newM G M) (broadcastInDim S128x1024 ![] bcast_S_S128x1024 (constant (F := Ideal) S_ .f32 0x3F26BD02#32))) (addf (Host.sqrt (Host.divf (newV G N) (broadcastInDim S128x1024 ![] bcast_S_S128x1024 (constant (F := Ideal) S_ .f32 0x3C231ACC#32)))) (broadcastInDim S128x1024 ![] bcast_S_S128x1024 (constant (F := Ideal) S_ .f32 0x322BCC77#32)))) (mulf (broadcastInDim S128x1024 ![] bcast_S_S128x1024 (constant (F := Ideal) S_ .f32 0x3C23D70A#32)) W))

theorem change_apply (W G M N : FVec Ideal S128x1024 .f32) (y : S128x1024.Idx) : change W G M N y = delta (W y) (G y) (M y) (N y) := by
  unfold change delta
  rw [← newM_apply, ← newV_apply]
  generalize newM G M = A
  generalize newV G N = B
  pointwise

end Cert.Reference7Ideal.Value

namespace Cert.Kernel7Ideal.Value

open Cert.Kernel7Ideal Cert.Kernel7Ideal.Gen Cert.Adam

/-- The chip list the host hands over: chip 0. -/
def words : pre0.Contents (Elt Ideal) := fun
  | ⟨0, _⟩ => constantI S1 32 0#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem idx_words : ∀ t : Fin grid0.N, cc0_transform_0 inb_S1_S1_0 numel1_S1 words (grid0.coords t) = ![0, t.val % 1, 0]
    ∧ cc0_transform_1 (grid0.coords t) = ![0, t.val % 1, 0] ∧ cc0_transform_2 (grid0.coords t) = ![1, t.val % 1, 0]
    ∧ cc0_transform_3 (grid0.coords t) = ![2, t.val % 1, 0]
    ∧ cc0_transform_4 (grid0.coords t) = ![t.val % 1, 0] := by decide +kernel

/-- The gradient at a grid point: the sum of the four parts. -/
theorem grad_apply (A B C D : FVec Ideal S1x128x1024 .f32) (i : Fin 128) (j : Fin 1024) :
    k0_pay2 (F := Ideal) A B C D (ix2 i j) = A (ix3 0 i j) + B (ix3 0 i j) + C (ix3 0 i j) + D (ix3 0 i j) := by
  unfold k0_pay2
  pointwise

theorem first_apply (A B C D : FVec Ideal S1x128x1024 .f32) (M : FVec Ideal S128x1024 .f32) (y : S128x1024.Idx) :
    k0_pay3 (F := Ideal) A B C D M y = first (k0_pay2 (F := Ideal) A B C D y) (M y) := by
  unfold k0_pay3 first
  generalize k0_pay2 (F := Ideal) A B C D = G
  pointwise

theorem second_apply (A B C D : FVec Ideal S1x128x1024 .f32) (M : FVec Ideal S128x1024 .f32) (y : S128x1024.Idx) :
    k0_pay4 (F := Ideal) A B C D M y = second (k0_pay2 (F := Ideal) A B C D y) (M y) := by
  unfold k0_pay4 second
  generalize k0_pay2 (F := Ideal) A B C D = G
  pointwise

theorem delta_apply (A B C D : FVec Ideal S1x128x1024 .f32) (W M N : FVec Ideal S128x1024 .f32) (y : S128x1024.Idx) :
    k0_pay1 (F := Ideal) W (k0_pay5 (F := Ideal) A B C D M) (k0_pay6 (F := Ideal) A B C D N) (Scalar.ofBits .f32 0x322BCC77#32) y
      = delta (W y) (k0_pay2 (F := Ideal) A B C D y) (M y) (N y) := by
  unfold k0_pay1 k0_pay5 k0_pay6 delta
  rw [← first_apply, ← second_apply]
  generalize k0_pay3 (F := Ideal) A B C D M = P
  generalize k0_pay4 (F := Ideal) A B C D N = Q
  pointwise

section Tile

variable (c : Dev nD) (i : grid0.Coords)
  (a0 : Memref sig .tc .vmem S1x128x1024 .f32) (h0 : a0.IsWhole)
  (a1 : Memref sig .tc .vmem S1x128x1024 .f32) (h1 : a1.IsWhole)
  (a2 : Memref sig .tc .vmem S1x128x1024 .f32) (h2 : a2.IsWhole)
  (a3 : Memref sig .tc .vmem S1x128x1024 .f32) (h3 : a3.IsWhole)
  (a4 : Memref sig .tc .vmem S128x1024 .f32) (h4 : a4.IsWhole)
  (a5 : Memref sig .tc .vmem S128x1024 .f32) (h5 : a5.IsWhole)
  (a6 : Memref sig .tc .vmem S128x1024 .f32) (h6 : a6.IsWhole)
  (a7 : Memref sig .tc .vmem S128x1024 .f32) (h7 : a7.IsWhole)
  (a8 : Memref sig .tc .vmem S128x1024 .f32) (h8 : a8.IsWhole)
  (a9 : Memref sig .tc .vmem S128x1024 .f32) (h9 : a9.IsWhole)
  (a10 : Memref sig .tc .vmem S128x1024 .f32) (h10 : a10.IsWhole)
  (X0 X1 X2 X3 : FVec Ideal S1x128x1024 .f32) (W M N : FVec Ideal S128x1024 .f32) (z : TbBuf0 (F := Ideal) c tbM0_0) (y : S128x1024.Idx)

/-- What a grid point stores: the gradient, -/
theorem tile_7 : out0_A_7 (F := Ideal) c i a0 h0 a1 h1 a2 h2 a3 h3 a4 h4 a5 h5 a6 h6 a7 h7 a8 h8 a9 h9 a10 h10 X0 X1 X2 X3 W M N z y = k0_pay2 (F := Ideal) X0 X1 X2 X3 y := by
  frame_out

/-- the change of the weight, -/
theorem tile_8 : out0_A_8 (F := Ideal) c i a0 h0 a1 h1 a2 h2 a3 h3 a4 h4 a5 h5 a6 h6 a7 h7 a8 h8 a9 h9 a10 h10 X0 X1 X2 X3 W M N z y
    = delta (W y) (k0_pay2 (F := Ideal) X0 X1 X2 X3 y) (M y) (N y) := by
  rw [← delta_apply]
  frame_out

/-- the new first moment -/
theorem tile_9 : out0_A_9 (F := Ideal) c i a0 h0 a1 h1 a2 h2 a3 h3 a4 h4 a5 h5 a6 h6 a7 h7 a8 h8 a9 h9 a10 h10 X0 X1 X2 X3 W M N z y
    = first (k0_pay2 (F := Ideal) X0 X1 X2 X3 y) (M y) := by
  rw [← first_apply]
  frame_out

/-- and the new second moment. -/
theorem tile_10 : out0_A_10 (F := Ideal) c i a0 h0 a1 h1 a2 h2 a3 h3 a4 h4 a5 h5 a6 h6 a7 h7 a8 h8 a9 h9 a10 h10 X0 X1 X2 X3 W M N z y
    = second (k0_pay2 (F := Ideal) X0 X1 X2 X3 y) (N y) := by
  rw [← second_apply]
  frame_out

end Tile

variable (m : (ℓ : Loc nD τ sig) → Buf (Elt Ideal) ℓ)

/-- The gradient's block at a grid point. -/
def part (c : Dev nD) (t : Fin (cfgM m (ok m)).N) : FVec Ideal S128x1024 .f32 :=
  k0_pay2 (F := Ideal) (iblk m (ok m) c 0 t) (iblk m (ok m) c 1 t) (iblk m (ok m) c 2 t) (iblk m (ok m) c 3 t)

theorem after_7 (c : Dev nD) (t : Fin (cfgM m (ok m)).N) (y : S128x1024.Idx) : (outsAt0 m (ok m) c t).1 y = part m c t y := by
  unfold outsAt0 part; dsimp only; exact tile_7 ..

theorem after_8 (c : Dev nD) (t : Fin (cfgM m (ok m)).N) (y : S128x1024.Idx) : (outsAt0 m (ok m) c t).2.1 y
    = delta (iblk m (ok m) c 4 t y) (part m c t y) (iblk m (ok m) c 5 t y) (iblk m (ok m) c 6 t y) := by
  unfold outsAt0 part; dsimp only; exact tile_8 ..

theorem after_9 (c : Dev nD) (t : Fin (cfgM m (ok m)).N) (y : S128x1024.Idx) : (outsAt0 m (ok m) c t).2.2.1 y
    = first (part m c t y) (iblk m (ok m) c 5 t y) := by
  unfold outsAt0 part; dsimp only; exact tile_9 ..

theorem after_10 (c : Dev nD) (t : Fin (cfgM m (ok m)).N) (y : S128x1024.Idx) : (outsAt0 m (ok m) c t).2.2.2 y
    = second (part m c t y) (iblk m (ok m) c 6 t y) := by
  unfold outsAt0 part; dsimp only; exact tile_10 ..

theorem index_0 (t : Fin (cfgM m (ok m)).N) : ((cfgM m (ok m)).win 0).index t = ![0, t.val % 1, 0] := by
  have e : ∀ (pf : pre0.Contents (Elt Ideal)) (h : ok0 pf), pf = words → ((cfg0 ⟨pf, h⟩).win 0).index t = ![0, t.val % 1, 0] := by
    rintro _ h rfl; exact (idx_words t).1
  exact e _ _ (tbl_eq m)

theorem index_1 (t : Fin (cfgM m (ok m)).N) : ((cfgM m (ok m)).win 1).index t = ![0, t.val % 1, 0] := (idx_words t).2.1
theorem index_2 (t : Fin (cfgM m (ok m)).N) : ((cfgM m (ok m)).win 2).index t = ![1, t.val % 1, 0] := (idx_words t).2.2.1
theorem index_3 (t : Fin (cfgM m (ok m)).N) : ((cfgM m (ok m)).win 3).index t = ![2, t.val % 1, 0] := (idx_words t).2.2.2.1
theorem index_4 (t : Fin (cfgM m (ok m)).N) : ((cfgM m (ok m)).win 4).index t = ![t.val % 1, 0] := (idx_words t).2.2.2.2
theorem index_5 (t : Fin (cfgM m (ok m)).N) : ((cfgM m (ok m)).win 5).index t = ![t.val % 1, 0] := (idx_words t).2.2.2.2
theorem index_6 (t : Fin (cfgM m (ok m)).N) : ((cfgM m (ok m)).win 6).index t = ![t.val % 1, 0] := (idx_words t).2.2.2.2
theorem index_7 (t : Fin (cfgM m (ok m)).N) : ((cfgM m (ok m)).win 7).index t = ![t.val % 1, 0] := (idx_words t).2.2.2.2
theorem index_8 (t : Fin (cfgM m (ok m)).N) : ((cfgM m (ok m)).win 8).index t = ![t.val % 1, 0] := (idx_words t).2.2.2.2
theorem index_9 (t : Fin (cfgM m (ok m)).N) : ((cfgM m (ok m)).win 9).index t = ![t.val % 1, 0] := (idx_words t).2.2.2.2
theorem index_10 (t : Fin (cfgM m (ok m)).N) : ((cfgM m (ok m)).win 10).index t = ![t.val % 1, 0] := (idx_words t).2.2.2.2

/-- The chip's own part among the parts of all chips. -/
abbrev own (c : Dev nD) : FVec Ideal S4x128x1024 .f32 := V m c main_arg0
/-- The parts received from the other chips. -/
abbrev received (c : Dev nD) : FVec Ideal S3x128x1024 .f32 := V m c main_arg1
abbrev weight (c : Dev nD) : FVec Ideal S128x1024 .f32 := V m c main_arg2
abbrev moment1 (c : Dev nD) : FVec Ideal S128x1024 .f32 := V m c main_arg3
abbrev moment2 (c : Dev nD) : FVec Ideal S128x1024 .f32 := V m c main_arg4
/-- The gradient as the reference sums it. -/
abbrev grad (c : Dev nD) : FVec Ideal S128x1024 .f32 := Cert.Reference7Ideal.Value.grad (own m c) (received m c)

theorem read_0 (c : Dev nD) (t : Fin (cfgM m (ok m)).N) (i : Fin 128) (j : Fin 1024) :
    iblk m (ok m) c 0 t (ix3 0 i j) = own m c (ix3 0 ⟨128 * (t.val % 1) + i, by omega⟩ j) := by
  show V m c main_arg0 _ = _
  unfold own
  generalize V m c main_arg0 = H
  blk_ext [index_0 m t]

theorem read_1 (c : Dev nD) (t : Fin (cfgM m (ok m)).N) (i : Fin 128) (j : Fin 1024) :
    iblk m (ok m) c 1 t (ix3 0 i j) = received m c (ix3 0 ⟨128 * (t.val % 1) + i, by omega⟩ j) := by
  show V m c main_arg1 _ = _
  unfold received
  generalize V m c main_arg1 = H
  blk_ext [index_1 m t]

theorem read_2 (c : Dev nD) (t : Fin (cfgM m (ok m)).N) (i : Fin 128) (j : Fin 1024) :
    iblk m (ok m) c 2 t (ix3 0 i j) = received m c (ix3 1 ⟨128 * (t.val % 1) + i, by omega⟩ j) := by
  show V m c main_arg1 _ = _
  unfold received
  generalize V m c main_arg1 = H
  blk_ext [index_2 m t]

theorem read_3 (c : Dev nD) (t : Fin (cfgM m (ok m)).N) (i : Fin 128) (j : Fin 1024) :
    iblk m (ok m) c 3 t (ix3 0 i j) = received m c (ix3 2 ⟨128 * (t.val % 1) + i, by omega⟩ j) := by
  show V m c main_arg1 _ = _
  unfold received
  generalize V m c main_arg1 = H
  blk_ext [index_3 m t]

/-- Where an entry of a grid point's block lies in the whole array. -/
def place (t : ℕ) (y : S128x1024.Idx) : S128x1024.Idx :=
  ix2 (⟨128 * (t % 1) + (y 0 : ℕ), by have h : (y 0 : ℕ) < 128 := (y 0).isLt; omega⟩ : Fin 128) (⟨(y 1 : ℕ), (y 1).isLt⟩ : Fin 1024)

theorem read_4 (c : Dev nD) (t : Fin (cfgM m (ok m)).N) (y : S128x1024.Idx) : iblk m (ok m) c 4 t y = weight m c (place t y) := by
  show V m c main_arg2 _ = _
  unfold weight
  generalize V m c main_arg2 = H
  unfold place
  blk_ext [index_4 m t]

theorem read_5 (c : Dev nD) (t : Fin (cfgM m (ok m)).N) (y : S128x1024.Idx) : iblk m (ok m) c 5 t y = moment1 m c (place t y) := by
  show V m c main_arg3 _ = _
  unfold moment1
  generalize V m c main_arg3 = H
  unfold place
  blk_ext [index_5 m t]

theorem read_6 (c : Dev nD) (t : Fin (cfgM m (ok m)).N) (y : S128x1024.Idx) : iblk m (ok m) c 6 t y = moment2 m c (place t y) := by
  show V m c main_arg4 _ = _
  unfold moment2
  generalize V m c main_arg4 = H
  unfold place
  blk_ext [index_6 m t]

theorem part_apply (c : Dev nD) (t : Fin (cfgM m (ok m)).N) (i : Fin 128) (j : Fin 1024) :
    part m c t (ix2 i j) = grad m c (ix2 ⟨128 * (t.val % 1) + i, by omega⟩ j) := by
  refine (grad_apply ..).trans (Eq.trans ?_ (Cert.Reference7Ideal.Value.grad_apply ..).symm)
  rw [read_0, read_1, read_2, read_3]

theorem part_place (c : Dev nD) (t : Fin (cfgM m (ok m)).N) (y : S128x1024.Idx) : part m c t y = grad m c (place t y) := by
  obtain ⟨i, j, rfl⟩ : ∃ (i : Fin 128) (j : Fin 1024), y = ix2 i j := ⟨y 0, y 1, funext fun | ⟨0, _⟩ => rfl | ⟨1, _⟩ => rfl⟩
  exact part_apply m c t i j

/-- The blocks cover each result. -/
theorem covers_words : ((cfg0 (F := Ideal) ⟨words, ok_words⟩).win 7).Covers ∧ ((cfg0 (F := Ideal) ⟨words, ok_words⟩).win 8).Covers
    ∧ ((cfg0 (F := Ideal) ⟨words, ok_words⟩).win 9).Covers ∧ ((cfg0 (F := Ideal) ⟨words, ok_words⟩).win 10).Covers := by decide +kernel

theorem covers : ((cfgM m (ok m)).win 7).Covers ∧ ((cfgM m (ok m)).win 8).Covers
    ∧ ((cfgM m (ok m)).win 9).Covers ∧ ((cfgM m (ok m)).win 10).Covers := by
  have e : ∀ (pf : pre0.Contents (Elt Ideal)) (h : ok0 pf), pf = words → ((cfg0 ⟨pf, h⟩).win 7).Covers ∧ ((cfg0 ⟨pf, h⟩).win 8).Covers
      ∧ ((cfg0 ⟨pf, h⟩).win 9).Covers ∧ ((cfg0 ⟨pf, h⟩).win 10).Covers := by
    rintro _ h rfl; exact covers_words
  exact e _ _ (tbl_eq m)

/-- What the call leaves: the gradient, -/
theorem final_7 (c : Dev nD) : (dats m (ok m) 0 c).arrAt 7 (cfgM m (ok m)).N = grad m c := by
  refine (dats m (ok m) 0 c).arrAt_eq_of_covers 7 _ (covers m).1 fun t hf y => ?_
  blk_simp
  rw [after0_7]
  refine (after_7 m c t y).trans ((part_place m c t y).trans ?_)
  generalize grad m c = G
  unfold place
  blk_ext [index_7 m t]

/-- the change of the weight, -/
theorem final_8 (c : Dev nD) : (dats m (ok m) 0 c).arrAt 8 (cfgM m (ok m)).N = Cert.Reference7Ideal.Value.change (weight m c) (grad m c) (moment1 m c) (moment2 m c) := by
  refine (dats m (ok m) 0 c).arrAt_eq_of_covers 8 _ (covers m).2.1 fun t hf y => ?_
  blk_simp
  rw [after0_8]
  refine (after_8 m c t y).trans ((delta_congr (read_4 m c t y) (part_place m c t y) (read_5 m c t y) (read_6 m c t y)).trans
    ((Cert.Reference7Ideal.Value.change_apply ..).symm.trans ?_))
  generalize Cert.Reference7Ideal.Value.change _ _ _ _ = H
  unfold place
  blk_ext [index_8 m t]

/-- the new first moment -/
theorem final_9 (c : Dev nD) : (dats m (ok m) 0 c).arrAt 9 (cfgM m (ok m)).N = Cert.Reference7Ideal.Value.newM (grad m c) (moment1 m c) := by
  refine (dats m (ok m) 0 c).arrAt_eq_of_covers 9 _ (covers m).2.2.1 fun t hf y => ?_
  blk_simp
  rw [after0_9]
  refine (after_9 m c t y).trans ((first_congr (part_place m c t y) (read_5 m c t y)).trans
    ((Cert.Reference7Ideal.Value.newM_apply ..).symm.trans ?_))
  generalize Cert.Reference7Ideal.Value.newM _ _ = H
  unfold place
  blk_ext [index_9 m t]

/-- and the new second moment. -/
theorem final_10 (c : Dev nD) : (dats m (ok m) 0 c).arrAt 10 (cfgM m (ok m)).N = Cert.Reference7Ideal.Value.newV (grad m c) (moment2 m c) := by
  refine (dats m (ok m) 0 c).arrAt_eq_of_covers 10 _ (covers m).2.2.2 fun t hf y => ?_
  blk_simp
  rw [after0_10]
  refine (after_10 m c t y).trans ((second_congr (part_place m c t y) (read_6 m c t y)).trans
    ((Cert.Reference7Ideal.Value.newV_apply ..).symm.trans ?_))
  generalize Cert.Reference7Ideal.Value.newV _ _ = H
  unfold place
  blk_ext [index_10 m t]

theorem run (ρ : Dev nD → PrngReg) : θ_run defs (onTc (τ := τ) (main (F := Ideal))) ⟨m, fun _ => 0, ρ⟩ (fun r => ∀ c : Dev nD,
    r.2.mem ((c.tc : Thread nD τ).loc main_v0_0) = (dats m (ok m) 0 c).arrAt 7 (cfgM m (ok m)).N
      ∧ r.2.mem ((c.tc : Thread nD τ).loc main_v0_1) = (dats m (ok m) 0 c).arrAt 8 (cfgM m (ok m)).N
      ∧ r.2.mem ((c.tc : Thread nD τ).loc main_v0_2) = (dats m (ok m) 0 c).arrAt 9 (cfgM m (ok m)).N
      ∧ r.2.mem ((c.tc : Thread nD τ).loc main_v0_3) = (dats m (ok m) 0 c).arrAt 10 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h.1 c).1 7, (h.1 c).1 8, (h.1 c).1 9, (h.1 c).1 10, h.2 c⟩) (θ_run_and (run_main m ρ (ok m)) (unchanged m ρ (ok m)))

/-- The call reads the arguments as they were at the start. -/
theorem arguments (c : Dev nD) : own m c = m ((c : Thread nD τ).loc main_arg0) ∧ received m c = m ((c : Thread nD τ).loc main_arg1)
    ∧ weight m c = m ((c : Thread nD τ).loc main_arg2) ∧ moment1 m c = m ((c : Thread nD τ).loc main_arg3)
    ∧ moment2 m c = m ((c : Thread nD τ).loc main_arg4) := by
  refine ⟨?_, ?_, ?_, ?_, ?_⟩ <;> (first | unfold own | unfold received | unfold weight | unfold moment1 | unfold moment2) <;> entry_read <;> rfl

end Cert.Kernel7Ideal.Value
-- ==== Proof.AdaGrad.lean ====
module

public import proofs.«01_k».proof.Proof.Gen.Kernel8Ideal.Frame
public import proofs.«01_k».proof.Proof.Gen.Reference8Ideal.Run
public import proofs.«01_k».proof.Pre_finite_rows
public import proofs.«01_k».proof.Proof.Adam
public import Idealize.ShloMosaic.Lib.IdealHost

/-! The gradient of the modulation's weight: on finite arguments, the kernel's product of numbers in three pieces is the
exact product of the gathered conditioning with the gathered gradients. -/

@[expose] public section

set_option maxRecDepth 16384

noncomputable section

open Idealize.ShloMosaic Idealize.ShloMosaic.TcCoe Idealize.SL.Sem

namespace Cert.Ada

/-- A number whose absolute value is below infinity is a real. -/
theorem real_of_abs (x : Ideal .f32) (h : FloatOps.cmpf .olt (FloatOps.hostAbsf x) (Ideal.ofBits .f32 0x7F800000#32) = 1#1) : ∃ r : ℝ, x = (r : EReal) := by
  have top : Ideal.ofBits .f32 0x7F800000#32 = (⊤ : EReal) := by simp [Ideal.ofBits, Ideal.ieee]
  have lt : max x (-x) < (⊤ : EReal) := by
    rw [← top]
    by_contra hn
    have e : FloatOps.cmpf .olt (FloatOps.hostAbsf x) (Ideal.ofBits .f32 0x7F800000#32) = BitVec.ofBool (decide (max x (-x) < Ideal.ofBits .f32 0x7F800000#32)) := rfl
    rw [e, decide_eq_false hn] at h
    exact absurd h (by decide)
  have h1 : x ≠ (⊤ : EReal) := (lt_of_le_of_lt (le_max_left _ _) lt).ne
  have h2 : x ≠ (⊥ : EReal) := fun hb => by
    have := lt_of_le_of_lt (le_max_right x (-x)) lt
    rw [hb] at this
    exact absurd this (by simp)
  exact ⟨EReal.toReal x, (EReal.coe_toReal h1 h2).symm⟩

theorem zero_word : (FloatOps.sitofp .f32 (0#32 : BitVec 32) : Ideal .f32) = (0 : EReal) := by
  show (((0#32 : BitVec 32).toInt : ℝ) : EReal) = 0
  simp

/-- `x σ(x)` of a real is a real. -/
theorem silu_real (r : ℝ) : ∃ s : ℝ, (r : EReal) * Ideal.div (Ideal.ofBits .f32 0x3F800000#32) (Ideal.ofBits .f32 0x3F800000#32 + Ideal.exp (-(r : EReal))) = (s : EReal) := by
  rw [Ideal.ofBits_one_f32, ← EReal.coe_neg]
  have e : (1 : EReal) + Ideal.exp ((-r : ℝ) : EReal) = ((1 + Real.exp (-r) : ℝ) : EReal) := by
    rw [EReal.coe_add]; rfl
  rw [e, Ideal.div_coe (by have := Real.exp_pos (-r); linarith), one_mul, ← EReal.coe_mul]
  exact ⟨_, rfl⟩

theorem sub_self_of_real {x : EReal} (h : ∃ r : ℝ, x = (r : EReal)) : x - x = 0 := by
  obtain ⟨r, rfl⟩ := h
  rw [← EReal.coe_sub, sub_self, EReal.coe_zero]

/-- A sum over 128 whose terms from the ninth on are zero. -/
theorem sum_eight (f : Fin 128 → EReal) (h : ∀ k : Fin 128, 8 ≤ k.val → f k = 0) : ∑ k, f k = ∑ d : Fin 8, f ⟨d, by omega⟩ := by
  refine (Fin.sum_univ_add (a := 8) (b := 120) f).trans ?_
  rw [Finset.sum_eq_zero (s := (Finset.univ : Finset (Fin 120))) (fun k _ => h _ (by simp)), add_zero]
  rfl

end Cert.Ada

namespace Cert.Reference8Ideal.Value

open Cert.Reference8Ideal Cert.Reference8Ideal.Gen Cert.Ada

/-- `x σ(x)`, entry by entry. -/
def silu (X : FVec Ideal S8x1024 .f32) : FVec Ideal S8x1024 .f32 :=
  mulf X (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf X))))

theorem silu_finite (X : FVec Ideal S8x1024 .f32) (y : S8x1024.Idx) (h : ∃ r : ℝ, X y = (r : EReal)) : ∃ s : ℝ, silu X y = (s : EReal) := by
  obtain ⟨r, h⟩ := h
  obtain ⟨s, e⟩ := silu_real r
  refine ⟨s, Eq.trans ?_ e⟩
  rw [← h]
  unfold silu
  pointwise

/-- The gradient: the gathered conditioning's transpose times the gathered gradients' columns. -/
def grad (X : FVec Ideal S8x1024 .f32) (D : FVec Ideal S8x3072 .f32) : FVec Ideal S1024x384 .f32 :=
  transpose S1024x384 [1, 0] (Host.dotGeneral (F := Ideal) dot_S8x384_S8x1024_S384x1024_0_0_1_1_n_n none (extractStridedSlice S8x384 ![0, 0] D slices_S8x3072_S8x384_0_0) (silu X)) transposes_S384x1024_S1024x384_1_0

theorem grad_apply (X : FVec Ideal S8x1024 .f32) (D : FVec Ideal S8x3072 .f32) (i : Fin 1024) (j : Fin 384) :
    grad X D (ix2 i j) = ∑ d : Fin 8, silu X (ix2 d i) * D (ix2 d ⟨j, by omega⟩) := by
  unfold grad
  generalize silu X = S
  pointwise
  exact Finset.sum_congr rfl fun d _ => mul_comm _ _

end Cert.Reference8Ideal.Value

namespace Cert.Kernel8Ideal.Value

open Cert.Kernel8Ideal Cert.Kernel8Ideal.Gen Cert.Ada

/-- The gradient at the grid point, where both factors are finite. -/
theorem product_apply (A : FVec Ideal S1024x128 .f32) (B : FVec Ideal S128x384 .f32) (i : Fin 1024) (j : Fin 384)
    (hA : ∀ k : Fin 128, ∃ r : ℝ, A (ix2 i k) = (r : EReal)) (hB : ∀ k : Fin 128, ∃ r : ℝ, B (ix2 k j) = (r : EReal)) :
    k0_pay3 (F := Ideal) A B (ix2 i j) = ∑ k : Fin 128, A (ix2 i k) * B (ix2 k j) := by
  have zA : ∀ k, A (ix2 i k) - A (ix2 i k) = 0 := fun k => sub_self_of_real (hA k)
  have zB : ∀ k, B (ix2 k j) - B (ix2 k j) = 0 := fun k => sub_self_of_real (hB k)
  unfold k0_pay3
  pointwise
  simp only [zA, zB, sub_zero, mul_zero, zero_mul, Finset.sum_const_zero, zero_add, add_zero]

/-- The conditioning as the call takes it: transposed, and filled up with zero columns. -/
def columns (S : FVec Ideal S8x1024 .f32) : FVec Ideal S1024x128 .f32 :=
  pad S1024x128 ![0, 0] ![0, 120] ![0, 0] (transpose S1024x8 [1, 0] S transposes_S8x1024_S1024x8_1_0) (sitofp (F := Ideal) .f32 (constantI S_ 32 0#32)) pads_S1024x8_S1024x128_000_01200 h_S_

theorem columns_apply (S : FVec Ideal S8x1024 .f32) (i : Fin 1024) (k : Fin 128) :
    columns S (ix2 i k) = if h : k.val < 8 then S (ix2 ⟨k, h⟩ i) else 0 := by
  unfold columns
  pointwise
  rw [zero_word]

/-- The gathered gradients as the call takes them: filled up with zero rows. -/
def rows (D : FVec Ideal S8x3072 .f32) : FVec Ideal S128x3072 .f32 :=
  pad S128x3072 ![0, 0] ![120, 0] ![0, 0] D (sitofp (F := Ideal) .f32 (constantI S_ 32 0#32)) pads_S8x3072_S128x3072_01200_000 h_S_

theorem rows_apply (D : FVec Ideal S8x3072 .f32) (k : Fin 128) (j : Fin 3072) :
    rows D (ix2 k j) = if h : k.val < 8 then D (ix2 ⟨k, h⟩ j) else 0 := by
  unfold rows
  pointwise
  rw [zero_word]

/-- The sum over the filled-up rows and columns is the sum over the eight devices. -/
theorem product_eq (S : FVec Ideal S8x1024 .f32) (D : FVec Ideal S8x3072 .f32) (i : Fin 1024) (j : Fin 3072) :
    ∑ k : Fin 128, columns S (ix2 i k) * rows D (ix2 k j) = ∑ d : Fin 8, S (ix2 d i) * D (ix2 d j) := by
  refine (sum_eight _ fun k hk => ?_).trans (Finset.sum_congr rfl fun d _ => ?_)
  · rw [columns_apply, dif_neg (by omega), zero_mul]
  · rw [columns_apply, rows_apply, dif_pos d.isLt, dif_pos d.isLt]

end Cert.Kernel8Ideal.Value

namespace Cert.Pre_finite_rows

open Cert.Ada

theorem facts : Facts := ⟨by decide, by decide, by decide⟩

/-- What the precondition says: the conditioning and the first 384 columns of the gradients are reals. -/
theorem reals [Facts] (X : FVec Ideal S8x1024 .f32) (D : FVec Ideal S8x3072 .f32) (W M N : FVec Ideal S1024x384 .f32)
    (hX : (fn (F := Ideal) X D W M N).1 = fun _ => 1#1) (hD : (fn (F := Ideal) X D W M N).2 = fun _ => 1#1) :
    (∀ y, ∃ r : ℝ, X y = (r : EReal)) ∧ ∀ (d : Fin 8) (j : Fin 384), ∃ r : ℝ, D (ix2 d ⟨j, by omega⟩) = (r : EReal) := by
  refine ⟨fun y => real_of_abs _ (congrFun hX y), fun d j => real_of_abs _ (Eq.trans ?_ (congrFun hD (ix2 d j)))⟩
  unfold fn
  pointwise

end Cert.Pre_finite_rows

end
-- ==== Proof.AdamAda.lean ====
module

public import proofs.«01_k».proof.Proof.AdaGrad

/-! The optimiser's step for a chip's columns of the modulation's weight. -/

@[expose] public section

set_option maxRecDepth 16384

noncomputable section

open Idealize.ShloMosaic Idealize.ShloMosaic.TcCoe Idealize.SL.Sem
open Idealize.ShloMosaic.Pipeline (Dat)

namespace Cert.Reference8Ideal.Value

open Cert.Reference8Ideal Cert.Reference8Ideal.Gen Cert.Adam

/-- The new first moment. -/
def newM (G M : FVec Ideal S1024x384 .f32) : FVec Ideal S1024x384 .f32 :=
  addf (mulf (broadcastInDim S1024x384 ![] bcast_S_S1024x384 (constant (F := Ideal) S_ .f32 0x3F666666#32)) M) (mulf (broadcastInDim S1024x384 ![] bcast_S_S1024x384 (constant (F := Ideal) S_ .f32 0x3DCCCCCD#32)) G)

theorem newM_apply (G M : FVec Ideal S1024x384 .f32) (y : S1024x384.Idx) : newM G M y = first (G y) (M y) := by
  unfold newM first
  pointwise

/-- The new second moment. -/
def newV (G N : FVec Ideal S1024x384 .f32) : FVec Ideal S1024x384 .f32 :=
  addf (mulf (broadcastInDim S1024x384 ![] bcast_S_S1024x384 (constant (F := Ideal) S_ .f32 0x3F7FBE77#32)) N) (mulf (broadcastInDim S1024x384 ![] bcast_S_S1024x384 (constant (F := Ideal) S_ .f32 0x3A83126F#32)) (mulf G G))

theorem newV_apply (G N : FVec Ideal S1024x384 .f32) (y : S1024x384.Idx) : newV G N y = second (G y) (N y) := by
  unfold newV second
  pointwise

/-- The change of the weight. -/
def change (W G M N : FVec Ideal S1024x384 .f32) : FVec Ideal S1024x384 .f32 :=
  mulf (broadcastInDim S1024x384 ![] bcast_S_S1024x384 (constant (F := Ideal) S_ .f32 0xBA83126F#32)) (addf (Host.divf (Host.divf (newM G M) (broadcastInDim S1024x384 ![] bcast_S_S1024x384 (constant (F := Ideal) S_ .f32 0x3F26BD02#32))) (addf (Host.sqrt (Host.divf (newV G N) (broadcastInDim S1024x384 ![] bcast_S_S1024x384 (constant (F := Ideal) S_ .f32 0x3C231ACC#32)))) (broadcastInDim S1024x384 ![] bcast_S_S1024x384 (constant (F := Ideal) S_ .f32 0x322BCC77#32)))) (mulf (broadcastInDim S1024x384 ![] bcast_S_S1024x384 (constant (F := Ideal) S_ .f32 0x3C23D70A#32)) W))

theorem change_apply (W G M N : FVec Ideal S1024x384 .f32) (y : S1024x384.Idx) : change W G M N y = delta (W y) (G y) (M y) (N y) := by
  unfold change delta
  rw [← newM_apply, ← newV_apply]
  generalize newM G M = A
  generalize newV G N = B
  pointwise

end Cert.Reference8Ideal.Value

namespace Cert.Kernel8Ideal.Value

open Cert.Kernel8Ideal Cert.Kernel8Ideal.Gen Cert.Adam

/-- The chip list the host hands over: chip 0. -/
def words : pre0.Contents (Elt Ideal) := fun
  | ⟨0, _⟩ => constantI S1 32 0#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

theorem idx_words : ∀ t : Fin grid0.N, cc0_transform_0 (grid0.coords t) = ![0, 0]
    ∧ cc0_transform_1 inb_S1_S1_0 numel1_S1 words (grid0.coords t) = ![0, 0]
    ∧ cc0_transform_2 (grid0.coords t) = ![0, 0] := by decide +kernel

theorem first_apply (A : FVec Ideal S1024x128 .f32) (B : FVec Ideal S128x384 .f32) (M : FVec Ideal S1024x384 .f32) (y : S1024x384.Idx) :
    k0_pay4 (F := Ideal) A B M y = first (k0_pay3 (F := Ideal) A B y) (M y) := by
  unfold k0_pay4 first
  generalize k0_pay3 (F := Ideal) A B = G
  pointwise

theorem second_apply (G N : FVec Ideal S1024x384 .f32) (y : S1024x384.Idx) : k0_pay1 (F := Ideal) G N y = second (G y) (N y) := by
  unfold k0_pay1 second
  pointwise

theorem delta_apply (A : FVec Ideal S1024x128 .f32) (B : FVec Ideal S128x384 .f32) (W M N : FVec Ideal S1024x384 .f32) (y : S1024x384.Idx) :
    k0_pay2 (F := Ideal) (k0_pay3 (F := Ideal) A B) W N (k0_pay4 (F := Ideal) A B M) y
      = delta (W y) (k0_pay3 (F := Ideal) A B y) (M y) (N y) := by
  unfold k0_pay2 delta
  rw [← first_apply, ← second_apply]
  generalize k0_pay4 (F := Ideal) A B M = P
  generalize k0_pay1 (F := Ideal) (k0_pay3 (F := Ideal) A B) N = Q
  pointwise

section Tile

variable (c : Dev nD) (i : grid0.Coords)
  (a0 : Memref sig .tc .vmem S1024x128 .f32) (h0 : a0.IsWhole)
  (a1 : Memref sig .tc .vmem S128x384 .f32) (h1 : a1.IsWhole)
  (a2 : Memref sig .tc .vmem S1024x384 .f32) (h2 : a2.IsWhole)
  (a3 : Memref sig .tc .vmem S1024x384 .f32) (h3 : a3.IsWhole)
  (a4 : Memref sig .tc .vmem S1024x384 .f32) (h4 : a4.IsWhole)
  (a5 : Memref sig .tc .vmem S1024x384 .f32) (h5 : a5.IsWhole)
  (a6 : Memref sig .tc .vmem S1024x384 .f32) (h6 : a6.IsWhole)
  (a7 : Memref sig .tc .vmem S1024x384 .f32) (h7 : a7.IsWhole)
  (a8 : Memref sig .tc .vmem S1024x384 .f32) (h8 : a8.IsWhole)
  (A : FVec Ideal S1024x128 .f32) (B : FVec Ideal S128x384 .f32) (W M N : FVec Ideal S1024x384 .f32) (z : TbBuf0 (F := Ideal) c tbM0_0) (y : S1024x384.Idx)

/-- What the grid point stores: the gradient, -/
theorem tile_5 : out0_A_5 (F := Ideal) c i a0 h0 a1 h1 a2 h2 a3 h3 a4 h4 a5 h5 a6 h6 a7 h7 a8 h8 A B W M N z y = k0_pay3 (F := Ideal) A B y := by
  frame_out

/-- the change of the weight, -/
theorem tile_6 : out0_A_6 (F := Ideal) c i a0 h0 a1 h1 a2 h2 a3 h3 a4 h4 a5 h5 a6 h6 a7 h7 a8 h8 A B W M N z y
    = delta (W y) (k0_pay3 (F := Ideal) A B y) (M y) (N y) := by
  rw [← delta_apply]
  frame_out

/-- the new first moment -/
theorem tile_7 : out0_A_7 (F := Ideal) c i a0 h0 a1 h1 a2 h2 a3 h3 a4 h4 a5 h5 a6 h6 a7 h7 a8 h8 A B W M N z y
    = first (k0_pay3 (F := Ideal) A B y) (M y) := by
  rw [← first_apply]
  frame_out

/-- and the new second moment. -/
theorem tile_8 : out0_A_8 (F := Ideal) c i a0 h0 a1 h1 a2 h2 a3 h3 a4 h4 a5 h5 a6 h6 a7 h7 a8 h8 A B W M N z y
    = second (k0_pay3 (F := Ideal) A B y) (N y) := by
  rw [← second_apply]
  frame_out

end Tile

variable (m : (ℓ : Loc nD τ sig) → Buf (Elt Ideal) ℓ)

/-- The gradient as the grid point computes it. -/
def part (c : Dev nD) (t : Fin (cfgM m (ok m)).N) : FVec Ideal S1024x384 .f32 :=
  k0_pay3 (F := Ideal) (iblk m (ok m) c 0 t) (iblk m (ok m) c 1 t)

theorem after_5 (c : Dev nD) (t : Fin (cfgM m (ok m)).N) (y : S1024x384.Idx) : (outsAt0 m (ok m) c t).1 y = part m c t y := by
  unfold outsAt0 part; dsimp only; exact tile_5 ..

theorem after_6 (c : Dev nD) (t : Fin (cfgM m (ok m)).N) (y : S1024x384.Idx) : (outsAt0 m (ok m) c t).2.1 y
    = delta (iblk m (ok m) c 2 t y) (part m c t y) (iblk m (ok m) c 3 t y) (iblk m (ok m) c 4 t y) := by
  unfold outsAt0 part; dsimp only; exact tile_6 ..

theorem after_7 (c : Dev nD) (t : Fin (cfgM m (ok m)).N) (y : S1024x384.Idx) : (outsAt0 m (ok m) c t).2.2.1 y
    = first (part m c t y) (iblk m (ok m) c 3 t y) := by
  unfold outsAt0 part; dsimp only; exact tile_7 ..

theorem after_8 (c : Dev nD) (t : Fin (cfgM m (ok m)).N) (y : S1024x384.Idx) : (outsAt0 m (ok m) c t).2.2.2 y
    = second (part m c t y) (iblk m (ok m) c 4 t y) := by
  unfold outsAt0 part; dsimp only; exact tile_8 ..

theorem index_0 (t : Fin (cfgM m (ok m)).N) : ((cfgM m (ok m)).win 0).index t = ![0, 0] := (idx_words t).1
theorem index_1 (t : Fin (cfgM m (ok m)).N) : ((cfgM m (ok m)).win 1).index t = ![0, 0] := by
  have e : ∀ (pf : pre0.Contents (Elt Ideal)) (h : ok0 pf), pf = words → ((cfg0 ⟨pf, h⟩).win 1).index t = ![0, 0] := by
    rintro _ h rfl; exact (idx_words t).2.1
  exact e _ _ (tbl_eq m)
theorem index_2 (t : Fin (cfgM m (ok m)).N) : ((cfgM m (ok m)).win 2).index t = ![0, 0] := (idx_words t).2.2
theorem index_3 (t : Fin (cfgM m (ok m)).N) : ((cfgM m (ok m)).win 3).index t = ![0, 0] := (idx_words t).2.2
theorem index_4 (t : Fin (cfgM m (ok m)).N) : ((cfgM m (ok m)).win 4).index t = ![0, 0] := (idx_words t).2.2
theorem index_5 (t : Fin (cfgM m (ok m)).N) : ((cfgM m (ok m)).win 5).index t = ![0, 0] := (idx_words t).2.2
theorem index_6 (t : Fin (cfgM m (ok m)).N) : ((cfgM m (ok m)).win 6).index t = ![0, 0] := (idx_words t).2.2
theorem index_7 (t : Fin (cfgM m (ok m)).N) : ((cfgM m (ok m)).win 7).index t = ![0, 0] := (idx_words t).2.2
theorem index_8 (t : Fin (cfgM m (ok m)).N) : ((cfgM m (ok m)).win 8).index t = ![0, 0] := (idx_words t).2.2

/-- The gathered conditioning. -/
abbrev conditioning (c : Dev nD) : FVec Ideal S8x1024 .f32 := m ((c : Thread nD τ).loc main_arg0)
/-- The gathered gradients of the modulation. -/
abbrev gathered (c : Dev nD) : FVec Ideal S8x3072 .f32 := m ((c : Thread nD τ).loc main_arg1)
abbrev weight (c : Dev nD) : FVec Ideal S1024x384 .f32 := V m c main_arg2
abbrev moment1 (c : Dev nD) : FVec Ideal S1024x384 .f32 := V m c main_arg3
abbrev moment2 (c : Dev nD) : FVec Ideal S1024x384 .f32 := V m c main_arg4
/-- The gradient as the reference has it. -/
abbrev grad (c : Dev nD) : FVec Ideal S1024x384 .f32 := Cert.Reference8Ideal.Value.grad (conditioning m c) (gathered m c)

theorem V_columns (c : Dev nD) : V m c main_v2 = columns (Cert.Reference8Ideal.Value.silu (conditioning m c)) := by
  unfold columns Cert.Reference8Ideal.Value.silu conditioning
  entry_read
  rfl

theorem V_rows (c : Dev nD) : V m c main_v3 = rows (gathered m c) := by
  unfold rows gathered
  entry_read
  rfl

theorem read_0 (c : Dev nD) (t : Fin (cfgM m (ok m)).N) (i : Fin 1024) (k : Fin 128) :
    iblk m (ok m) c 0 t (ix2 i k) = columns (Cert.Reference8Ideal.Value.silu (conditioning m c)) (ix2 i k) := by
  rw [← V_columns]
  show V m c main_v2 _ = _
  generalize V m c main_v2 = H
  blk_ext [index_0 m t]

theorem read_1 (c : Dev nD) (t : Fin (cfgM m (ok m)).N) (k : Fin 128) (j : Fin 384) :
    iblk m (ok m) c 1 t (ix2 k j) = rows (gathered m c) (ix2 k ⟨j, by omega⟩) := by
  rw [← V_rows]
  show V m c main_v3 _ = _
  generalize V m c main_v3 = H
  blk_ext [index_1 m t]

theorem read_2 (c : Dev nD) (t : Fin (cfgM m (ok m)).N) (y : S1024x384.Idx) : iblk m (ok m) c 2 t y = weight m c y := by
  show V m c main_arg2 _ = _
  unfold weight
  generalize V m c main_arg2 = H
  blk_ext [index_2 m t]

theorem read_3 (c : Dev nD) (t : Fin (cfgM m (ok m)).N) (y : S1024x384.Idx) : iblk m (ok m) c 3 t y = moment1 m c y := by
  show V m c main_arg3 _ = _
  unfold moment1
  generalize V m c main_arg3 = H
  blk_ext [index_3 m t]

theorem read_4 (c : Dev nD) (t : Fin (cfgM m (ok m)).N) (y : S1024x384.Idx) : iblk m (ok m) c 4 t y = moment2 m c y := by
  show V m c main_arg4 _ = _
  unfold moment2
  generalize V m c main_arg4 = H
  blk_ext [index_4 m t]

/-- The conditioning and the columns of the gradients that the chip reads are reals. -/
def Finite (c : Dev nD) : Prop := (∀ y, ∃ r : ℝ, conditioning m c y = (r : EReal))
  ∧ ∀ (d : Fin 8) (j : Fin 384), ∃ r : ℝ, gathered m c (ix2 d ⟨j, by omega⟩) = (r : EReal)

theorem columns_real (S : FVec Ideal S8x1024 .f32) (h : ∀ y, ∃ r : ℝ, S y = (r : EReal)) (i : Fin 1024) (k : Fin 128) :
    ∃ r : ℝ, columns S (ix2 i k) = (r : EReal) := by
  rw [columns_apply]
  split
  · exact h _
  · exact ⟨0, rfl⟩

theorem rows_real (D : FVec Ideal S8x3072 .f32) (k : Fin 128) (j : Fin 3072) (h : ∀ d : Fin 8, ∃ r : ℝ, D (ix2 d j) = (r : EReal)) :
    ∃ r : ℝ, rows D (ix2 k j) = (r : EReal) := by
  rw [rows_apply]
  split
  · exact h _
  · exact ⟨0, rfl⟩

theorem part_apply (c : Dev nD) (hf : Finite m c) (t : Fin (cfgM m (ok m)).N) (i : Fin 1024) (j : Fin 384) :
    part m c t (ix2 i j) = grad m c (ix2 i j) := by
  have hA : ∀ k : Fin 128, ∃ r : ℝ, iblk m (ok m) c 0 t (ix2 i k) = (r : EReal) := fun k => by
    rw [read_0]; exact columns_real _ (fun y => Cert.Reference8Ideal.Value.silu_finite _ _ (hf.1 y)) i k
  have hB : ∀ k : Fin 128, ∃ r : ℝ, iblk m (ok m) c 1 t (ix2 k j) = (r : EReal) := fun k => by
    rw [read_1]; exact rows_real _ k _ fun d => hf.2 d j
  refine (product_apply _ _ i j hA hB).trans (Eq.trans (Finset.sum_congr rfl fun k _ => ?_)
    ((product_eq _ _ i ⟨j, by omega⟩).trans (Cert.Reference8Ideal.Value.grad_apply ..).symm))
  exact congrArg₂ (· * ·) (read_0 m c t i k) (read_1 m c t k j)

theorem part_eq (c : Dev nD) (hf : Finite m c) (t : Fin (cfgM m (ok m)).N) (y : S1024x384.Idx) : part m c t y = grad m c y := by
  obtain ⟨i, j, rfl⟩ : ∃ (i : Fin 1024) (j : Fin 384), y = ix2 i j := ⟨y 0, y 1, funext fun | ⟨0, _⟩ => rfl | ⟨1, _⟩ => rfl⟩
  exact part_apply m c hf t i j

/-- The block covers each result. -/
theorem covers_words : ((cfg0 (F := Ideal) ⟨words, ok_words⟩).win 5).Covers ∧ ((cfg0 (F := Ideal) ⟨words, ok_words⟩).win 6).Covers
    ∧ ((cfg0 (F := Ideal) ⟨words, ok_words⟩).win 7).Covers ∧ ((cfg0 (F := Ideal) ⟨words, ok_words⟩).win 8).Covers := by decide +kernel

theorem covers : ((cfgM m (ok m)).win 5).Covers ∧ ((cfgM m (ok m)).win 6).Covers ∧ ((cfgM m (ok m)).win 7).Covers ∧ ((cfgM m (ok m)).win 8).Covers := by
  have e : ∀ (pf : pre0.Contents (Elt Ideal)) (h : ok0 pf), pf = words → ((cfg0 ⟨pf, h⟩).win 5).Covers ∧ ((cfg0 ⟨pf, h⟩).win 6).Covers
      ∧ ((cfg0 ⟨pf, h⟩).win 7).Covers ∧ ((cfg0 ⟨pf, h⟩).win 8).Covers := by
    rintro _ h rfl; exact covers_words
  exact e _ _ (tbl_eq m)

/-- What the call leaves: the gradient, -/
theorem final_5 (c : Dev nD) (hfin : Finite m c) : (dats m (ok m) 0 c).arrAt 5 (cfgM m (ok m)).N = grad m c := by
  refine (dats m (ok m) 0 c).arrAt_eq_of_covers 5 _ (covers m).1 fun t hf y => ?_
  blk_simp
  rw [after0_5]
  refine (after_5 m c t y).trans ((part_eq m c hfin t y).trans ?_)
  generalize grad m c = G
  blk_ext [index_5 m t]

/-- the change of the weight, -/
theorem final_6 (c : Dev nD) (hfin : Finite m c) : (dats m (ok m) 0 c).arrAt 6 (cfgM m (ok m)).N = Cert.Reference8Ideal.Value.change (weight m c) (grad m c) (moment1 m c) (moment2 m c) := by
  refine (dats m (ok m) 0 c).arrAt_eq_of_covers 6 _ (covers m).2.1 fun t hf y => ?_
  blk_simp
  rw [after0_6]
  refine (after_6 m c t y).trans ((delta_congr (read_2 m c t y) (part_eq m c hfin t y) (read_3 m c t y) (read_4 m c t y)).trans
    ((Cert.Reference8Ideal.Value.change_apply ..).symm.trans ?_))
  generalize Cert.Reference8Ideal.Value.change _ _ _ _ = H
  blk_ext [index_6 m t]

/-- the new first moment -/
theorem final_7 (c : Dev nD) (hfin : Finite m c) : (dats m (ok m) 0 c).arrAt 7 (cfgM m (ok m)).N = Cert.Reference8Ideal.Value.newM (grad m c) (moment1 m c) := by
  refine (dats m (ok m) 0 c).arrAt_eq_of_covers 7 _ (covers m).2.2.1 fun t hf y => ?_
  blk_simp
  rw [after0_7]
  refine (after_7 m c t y).trans ((first_congr (part_eq m c hfin t y) (read_3 m c t y)).trans
    ((Cert.Reference8Ideal.Value.newM_apply ..).symm.trans ?_))
  generalize Cert.Reference8Ideal.Value.newM _ _ = H
  blk_ext [index_7 m t]

/-- and the new second moment. -/
theorem final_8 (c : Dev nD) (hfin : Finite m c) : (dats m (ok m) 0 c).arrAt 8 (cfgM m (ok m)).N = Cert.Reference8Ideal.Value.newV (grad m c) (moment2 m c) := by
  refine (dats m (ok m) 0 c).arrAt_eq_of_covers 8 _ (covers m).2.2.2 fun t hf y => ?_
  blk_simp
  rw [after0_8]
  refine (after_8 m c t y).trans ((second_congr (part_eq m c hfin t y) (read_4 m c t y)).trans
    ((Cert.Reference8Ideal.Value.newV_apply ..).symm.trans ?_))
  generalize Cert.Reference8Ideal.Value.newV _ _ = H
  blk_ext [index_8 m t]

theorem run (ρ : Dev nD → PrngReg) : θ_run defs (onTc (τ := τ) (main (F := Ideal))) ⟨m, fun _ => 0, ρ⟩ (fun r => ∀ c : Dev nD,
    r.2.mem ((c.tc : Thread nD τ).loc main_v4_0) = (dats m (ok m) 0 c).arrAt 5 (cfgM m (ok m)).N
      ∧ r.2.mem ((c.tc : Thread nD τ).loc main_v4_1) = (dats m (ok m) 0 c).arrAt 6 (cfgM m (ok m)).N
      ∧ r.2.mem ((c.tc : Thread nD τ).loc main_v4_2) = (dats m (ok m) 0 c).arrAt 7 (cfgM m (ok m)).N
      ∧ r.2.mem ((c.tc : Thread nD τ).loc main_v4_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h.1 c).1 5, (h.1 c).1 6, (h.1 c).1 7, (h.1 c).1 8, h.2 c⟩) (θ_run_and (run_main m ρ (ok m)) (unchanged m ρ (ok m)))

/-- The call reads the weight and its moments as they were at the start. -/
theorem arguments (c : Dev nD) : weight m c = m ((c : Thread nD τ).loc main_arg2) ∧ moment1 m c = m ((c : Thread nD τ).loc main_arg3)
    ∧ moment2 m c = m ((c : Thread nD τ).loc main_arg4) := by
  refine ⟨?_, ?_, ?_⟩ <;> (first | unfold weight | unfold moment1 | unfold moment2) <;> entry_read <;> rfl

end Cert.Kernel8Ideal.Value

end
-- ==== Proof.Norm.lean ====
module

public import proofs.«01_k».proof.Proof.Gen.Kernel9Ideal.Frame
public import proofs.«01_k».proof.Proof.Gen.Reference9Ideal
public import Idealize.ShloMosaic.Lib.Pipeline.ValueKit

/-! The adaptive norm of the block's input: each tile of rows is normalised, scaled and shifted as the reference's rows
are, and the transposed tile is the reference's columns. -/

@[expose] public section

set_option maxRecDepth 16384

noncomputable section

open Idealize.ShloMosaic Idealize.ShloMosaic.TcCoe Idealize.SL.Sem
open Idealize.ShloMosaic.Pipeline (Dat)

namespace Cert.Reference9Ideal.Value

open Cert.Reference9Ideal Cert.Reference9Ideal.Gen

/-- One entry of a normalised row `f`, scaled and shifted. -/
def entry (f : Fin 1024 → EReal) (g s b : EReal) (l : Fin 1024) : EReal :=
  f l * Ideal.rsqrt (Ideal.div (∑ k : Fin 1024, f k * f k) (Ideal.ofBits .f32 0x44800000#32) + Ideal.ofBits .f32 0x358637BD#32) * g * s + b

/-- The scale the norm multiplies by: one plus the conditioning's scale. -/
def scale1p (a : Vec Ideal S1x1024 .f32) : FVec Ideal S1x1024 .f32 :=
  addf (broadcastInDim S1x1024 ![] bcast_S_S1x1024 (constant (F := Ideal) S_ .f32 0x3F800000#32)) a

/-- The reference's result, from the prepared scale. -/
def norm (x : FVec Ideal S4096x1024 .f32) (g s b : FVec Ideal S1x1024 .f32) : FVec Ideal S4096x1024 .bf16 :=
  truncf .bf16 (addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 s)) (broadcastInDim S4096x1024 ![0, 1] bcast_S1x1024_S4096x1024_0_1 b)) bitsLt_bf16_f32

theorem norm_apply (x : FVec Ideal S4096x1024 .f32) (g s b : FVec Ideal S1x1024 .f32) (t : Fin 4096) (l : Fin 1024) :
    norm x g s b (ix2 t l) = entry (fun l => x (ix2 t l)) (g (ix2 0 l)) (s (ix2 0 l)) (b (ix2 0 l)) l := by
  unfold norm entry
  pointwise

/-- The reference's second result. -/
def normT (h : FVec Ideal S4096x1024 .bf16) : FVec Ideal S1024x4096 .bf16 :=
  transpose S1024x4096 [1, 0] h transposes_S4096x1024_S1024x4096_1_0

theorem normT_apply (h : FVec Ideal S4096x1024 .bf16) (l : Fin 1024) (t : Fin 4096) : normT h (ix2 l t) = h (ix2 t l) := by
  unfold normT
  pointwise

end Cert.Reference9Ideal.Value

namespace Cert.Kernel9Ideal.Value

open Cert.Kernel9Ideal Cert.Kernel9Ideal.Gen
open Cert.Reference9Ideal.Value (entry scale1p norm norm_apply normT normT_apply)
variable (m : (ℓ : Loc nD τ sig) → Buf (Elt Ideal) ℓ)

/-- A tile's entry. -/
theorem pay1_apply (x : Vec Ideal S1024x1024 .f32) (g s b : Vec Ideal S1x1024 .f32) (k l : Fin 1024) :
    k0_pay1 x g s b (ix2 k l) = entry (fun l => x (ix2 k l)) (g (ix2 0 l)) (s (ix2 0 l)) (b (ix2 0 l)) l := by
  unfold k0_pay1 entry
  pointwise

/-- Where each block lies, decided over the grid. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![0, t.val])

theorem t_lt (t : Fin cfg0.N) : t.val < 4 := N_0 ▸ t.isLt

/-- A tile of x is rows of x. -/
theorem read_x (c : Dev nD) (t : Fin cfg0.N) (k l : Fin 1024) :
    iblk m c 0 t (ix2 k l) = m ((c : Thread nD τ).loc main_arg0) (ix2 ⟨t.val * 1024 + k, by have := t_lt t; omega⟩ l) := by
  blk_point [iblk, V, idx_val t]

/-- The gain. -/
theorem read_g (c : Dev nD) (t : Fin cfg0.N) (l : Fin 1024) :
    iblk m c 1 t (ix2 0 l) = m ((c : Thread nD τ).loc main_arg1) (ix2 0 l) := by
  blk_point [iblk, V, idx_val t]

/-- The scale the host prepares. -/
theorem V_scale (c : Dev nD) : V m c main_v1 = scale1p (m ((c : Thread nD τ).loc main_arg2)) := by
  entry_read
  rfl

theorem read_scale (c : Dev nD) (t : Fin cfg0.N) (l : Fin 1024) :
    iblk m c 2 t (ix2 0 l) = scale1p (m ((c : Thread nD τ).loc main_arg2)) (ix2 0 l) := by
  rw [← V_scale]
  blk_point [iblk, idx_val t]

/-- The shift. -/
theorem read_shift (c : Dev nD) (t : Fin cfg0.N) (l : Fin 1024) :
    iblk m c 3 t (ix2 0 l) = m ((c : Thread nD τ).loc main_arg3) (ix2 0 l) := by
  blk_point [iblk, V, idx_val t]

/-- The reference's rows on the kernel's arguments. -/
abbrev rows (c : Dev nD) : FVec Ideal S4096x1024 .bf16 :=
  norm (m ((c : Thread nD τ).loc main_arg0)) (m ((c : Thread nD τ).loc main_arg1)) (scale1p (m ((c : Thread nD τ).loc main_arg2))) (m ((c : Thread nD τ).loc main_arg3))

/-- A tile's entry is the reference's. -/
theorem point (c : Dev nD) (t : Fin cfg0.N) (k l : Fin 1024) :
    k0_pay1 (F := Ideal) (iblk m c 0 t) (iblk m c 1 t) (iblk m c 2 t) (iblk m c 3 t) (ix2 k l)
      = rows m c (ix2 ⟨t.val * 1024 + k, by have := t_lt t; omega⟩ l) := by
  unfold rows
  rw [pay1_apply, norm_apply, read_g, read_scale, read_shift]
  simp only [read_x]

theorem pay3_apply (x : Vec Ideal S1024x1024 .f32) (g s b : Vec Ideal S1x1024 .f32) (k l : Fin 1024) :
    k0_pay3 x g s b (ix2 k l) = k0_pay1 x g s b (ix2 l k) := by
  unfold k0_pay3
  generalize k0_pay1 x g s b = h
  pointwise

theorem out4 (x : Vec Ideal S1024x1024 .f32) (g s b : Vec Ideal S1x1024 .f32) : out0_4 x g s b = k0_pay1 x g s b := by
  frame_out
  rfl

theorem out5 (x : Vec Ideal S1024x1024 .f32) (g s b : Vec Ideal S1x1024 .f32) : out0_5 x g s b = k0_pay3 x g s b := by
  frame_out

/-- The first result is the reference's. -/
theorem final_rows (c : Dev nD) : (dats m 0 c).arrAt 4 cfg0.N = rows m c := by
  refine (dats m 0 c).arrAt_eq_of_covers 4 _ (by decide +kernel) fun t hf y => ?_
  blk_simp
  rw [after0_4, out4]
  obtain ⟨k, l, rfl⟩ : ∃ (k l : Fin 1024), y = ix2 k l := ⟨y 0, y 1, funext fun a => match a with | ⟨0, _⟩ => rfl | ⟨1, _⟩ => rfl⟩
  have he : ((cfg0.win 4).blk t).view.emb (ix2 k l) = ix2 ⟨t.val * 1024 + k, by have := t_lt t; omega⟩ l := by
    blk_ext [idx_val t]
  rw [he]
  exact point m c t k l

/-- The second result is the reference's. -/
theorem final_columns (c : Dev nD) : (dats m 0 c).arrAt 5 cfg0.N = normT (rows m c) := by
  refine (dats m 0 c).arrAt_eq_of_covers 5 _ (by decide +kernel) fun t hf y => ?_
  blk_simp
  rw [after0_5, out5]
  obtain ⟨l, k, rfl⟩ : ∃ (l k : Fin 1024), y = ix2 l k := ⟨y 0, y 1, funext fun a => match a with | ⟨0, _⟩ => rfl | ⟨1, _⟩ => rfl⟩
  have he : ((cfg0.win 5).blk t).view.emb (ix2 l k) = ix2 l ⟨t.val * 1024 + k, by have := t_lt t; omega⟩ := by
    blk_ext [idx_val t]
  rw [he, normT_apply, pay3_apply]
  exact point m c t k l

end Cert.Kernel9Ideal.Value

end
-- ==== Proof.Sibling.lean ====
module

public import proofs.«01_k».proof.Proof.Gen.Kernel10Ideal.Frame
public import proofs.«01_k».proof.Proof.Gen.Reference10Ideal
public import Idealize.ShloMosaic.Lib.Pipeline.ValueKit

/-! The weight gradient's shards for the chip's other device: every second one of the eight. -/

@[expose] public section

set_option maxRecDepth 16384

noncomputable section

open Idealize.ShloMosaic Idealize.ShloMosaic.TcCoe Idealize.SL.Sem
open Idealize.ShloMosaic.Pipeline (Dat)

namespace Cert.Reference10Ideal.Value

open Cert.Reference10Ideal Cert.Reference10Ideal.Gen

/-- The shards, as the reference takes them: the eight in pairs, and of each pair the second. -/
def shards (D : FVec Ideal S8x1024x1152 .f32) : FVec Ideal S4x1024x1152 .bf16 :=
  truncf .bf16 (shapeCast _ (extractStridedSlice S4x1x1024x1152 ![0, 1, 0, 0] (shapeCast _ D shapeCasts_S8x1024x1152_S4x2x1024x1152) slices_S4x2x1024x1152_S4x1x1024x1152_0_1_0_0) shapeCasts_S4x1x1024x1152_S4x1024x1152) bitsLt_bf16_f32

theorem shards_apply (D : FVec Ideal S8x1024x1152 .f32) (q : Fin 4) (i : Fin 1024) (j : Fin 1152) :
    shards D (ix3 q i j) = D (ix3 ⟨2 * q + 1, by omega⟩ i j) := by
  unfold shards
  pointwise
  blk_ext []

end Cert.Reference10Ideal.Value

namespace Cert.Kernel10Ideal.Value

open Cert.Kernel10Ideal Cert.Kernel10Ideal.Gen
open Cert.Reference10Ideal.Value (shards shards_apply)

/-- The place on the chip that the host hands over: 0. -/
def words : pre0.Contents (Elt Ideal) := fun
  | ⟨0, _⟩ => constantI S1 32 0#32
  | ⟨_ + 1, h⟩ => absurd h (by simp)

theorem tbl_eq (m : (ℓ : Loc nD τ sig) → Buf (Elt Ideal) ℓ) : tbl m = words := by
  funext j
  match j with
  | ⟨0, _⟩ =>
    show V m 0 main_c = _
    entry_read
    rfl

theorem ok_words : ok0 (F := Ideal) words := by decide

theorem ok (m : (ℓ : Loc nD τ sig) → Buf (Elt Ideal) ℓ) : Ok m := by
  unfold Ok; rw [tbl_eq]; exact ok_words

/-- Which shard a grid point reads, and where it writes it. -/
theorem idx_words : ∀ t : Fin grid0.N, cc0_transform_0 inb_S1_S1_0 numel1_S1 words (grid0.coords t) = ![2 * (t.val % 4) + 1, 0, 0]
    ∧ cc0_transform_1 (grid0.coords t) = ![t.val % 4, 0, 0] := by decide +kernel

theorem pay1_apply (X : Vec Ideal S1x1024x1152 .f32) (y : S1x1024x1152.Idx) : k0_pay1 (F := Ideal) X y = X y := by
  unfold k0_pay1
  pointwise
  blk_ext []

theorem tile (c : Dev nD) (i : grid0.Coords) (a0 : Memref sig .tc .vmem S1x1024x1152 .f32) (h0 : a0.IsWhole)
    (a1 : Memref sig .tc .vmem S1x1024x1152 .bf16) (h1 : a1.IsWhole) (X : Vec Ideal S1x1024x1152 .f32) (z : TbBuf0 (F := Ideal) c tbM0_0)
    (y : S1x1024x1152.Idx) : out0_A_1 (F := Ideal) c i a0 h0 a1 h1 X z y = X y := by
  refine Eq.trans ?_ (pay1_apply X y)
  frame_out

variable (m : (ℓ : Loc nD τ sig) → Buf (Elt Ideal) ℓ)

theorem after (c : Dev nD) (t : Fin (cfgM m (ok m)).N) (y : S1x1024x1152.Idx) : outsAt0 m (ok m) c t y = iblk m (ok m) c 0 t y := by
  unfold outsAt0; exact tile ..

theorem index_0 (t : Fin (cfgM m (ok m)).N) : ((cfgM m (ok m)).win 0).index t = ![2 * (t.val % 4) + 1, 0, 0] := by
  have e : ∀ (pf : pre0.Contents (Elt Ideal)) (h : ok0 pf), pf = words → ((cfg0 ⟨pf, h⟩).win 0).index t = ![2 * (t.val % 4) + 1, 0, 0] := by
    rintro _ h rfl; exact (idx_words t).1
  exact e _ _ (tbl_eq m)

theorem index_1 (t : Fin (cfgM m (ok m)).N) : ((cfgM m (ok m)).win 1).index t = ![t.val % 4, 0, 0] := (idx_words t).2

/-- The gradient's shards. -/
abbrev gradient (c : Dev nD) : FVec Ideal S8x1024x1152 .f32 := V m c main_arg0

theorem read (c : Dev nD) (t : Fin (cfgM m (ok m)).N) (i : Fin 1024) (j : Fin 1152) :
    iblk m (ok m) c 0 t (ix3 0 i j) = gradient m c (ix3 ⟨2 * (t.val % 4) + 1, by omega⟩ i j) := by
  show V m c main_arg0 _ = _
  unfold gradient
  generalize V m c main_arg0 = H
  blk_ext [index_0 m t]

theorem split (y : S1x1024x1152.Idx) : ∃ (i : Fin 1024) (j : Fin 1152), y = ix3 0 i j := ⟨y 1, y 2, funext fun
  | ⟨0, _⟩ => Fin.ext (by have h : (y 0 : ℕ) < 1 := (y 0).isLt; show (y 0 : ℕ) = 0; omega)
  | ⟨1, _⟩ => rfl
  | ⟨2, _⟩ => rfl⟩

/-- The blocks cover the result. -/
theorem covers_words : ((cfg0 (F := Ideal) ⟨words, ok_words⟩).win 1).Covers := by decide +kernel

theorem covers : ((cfgM m (ok m)).win 1).Covers := by
  have e : ∀ (pf : pre0.Contents (Elt Ideal)) (h : ok0 pf), pf = words → ((cfg0 ⟨pf, h⟩).win 1).Covers := by
    rintro _ h rfl; exact covers_words
  exact e _ _ (tbl_eq m)

/-- What the call leaves: the reference's shards. -/
theorem final (c : Dev nD) : (dats m (ok m) 0 c).arrAt 1 (cfgM m (ok m)).N = shards (gradient m c) := by
  refine (dats m (ok m) 0 c).arrAt_eq_of_covers 1 _ (covers m) fun t hf y => ?_
  blk_simp
  rw [after0_1]
  obtain ⟨i, j, rfl⟩ := split y
  refine (after m c t _).trans ((read m c t i j).trans ((shards_apply _ ⟨t.val % 4, by omega⟩ i j).symm.trans ?_))
  generalize shards _ = H
  blk_ext [index_1 m t]

theorem run (ρ : Dev nD → PrngReg) : θ_run defs (onTc (τ := τ) (main (F := Ideal))) ⟨m, fun _ => 0, ρ⟩ (fun r => ∀ c : Dev nD,
    r.2.mem ((c.tc : Thread nD τ).loc main_v0) = (dats m (ok m) 0 c).arrAt 1 (cfgM m (ok m)).N
      ∧ r.2.mem ((c.tc : Thread nD τ).loc main_arg0) = m ((c.tc : Thread nD τ).loc main_arg0)) :=
  (θ_run _ _ _).mono (fun _ h c => ⟨(h.1 c).1 1, h.2 c⟩) (θ_run_and (run_main m ρ (ok m)) (unchanged m ρ (ok m)))

/-- The call reads its argument as it was at the start. -/
theorem argument (c : Dev nD) : gradient m c = m ((c : Thread nD τ).loc main_arg0) := by
  unfold gradient
  entry_read
  try rfl

end Cert.Kernel10Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.InputGrad
public import proofs.«01_k».proof.Proof.WeightGrad
public import proofs.«01_k».proof.Proof.Own
public import proofs.«01_k».proof.Proof.Neighbours
public import proofs.«01_k».proof.Proof.Diagonal
public import proofs.«01_k».proof.Proof.ChipLists
public import proofs.«01_k».proof.Proof.AdamIn
public import proofs.«01_k».proof.Proof.AdamOut
public import proofs.«01_k».proof.Proof.AdamAda
public import proofs.«01_k».proof.Proof.Norm
public import proofs.«01_k».proof.Proof.Sibling
public import Idealize.ShloMosaic.Adequacy
public import Idealize.ShloMosaic.Init

@[expose] public section

noncomputable section

namespace Cert.Proof

open Idealize.ShloMosaic Idealize.SL.Sem Cert.Kernel

/-- The input gradient of the projections: the kernel and its reference end with equal results. -/
theorem input_grad : algebraic_KernelIdeal_ReferenceIdeal (hKernelIdeal := Cert.KernelIdeal.Gen.facts) (hReferenceIdeal := Cert.ReferenceIdeal.Gen.facts) := by
  intro m g m' g' _ hag
  refine ⟨fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, (θ_run _ _ _).mono (fun _ h c => ⟨(h c).1.trans ?_, (h c).2.1.trans ?_, (h c).2.2⟩) (Cert.ReferenceIdeal.Value.run m' g')⟩
  · show _ = (Cert.KernelIdeal.Gen.dats m 0 c).arrAt 6 Cert.KernelIdeal.cfg0.N
    rw [Cert.KernelIdeal.Value.final_input m c, Cert.ReferenceIdeal.Value.res_eq]
    obtain ⟨h0, h1, _, h3, h4, h5, h6⟩ := hag c
    rw [h0, h1, h3, h4, h5, h6]
  · show _ = (Cert.KernelIdeal.Gen.dats m 0 c).arrAt 7 Cert.KernelIdeal.cfg0.N
    rw [Cert.KernelIdeal.Value.final_sums m c]
    obtain ⟨h0, h1, _, h3, h4, h5, h6⟩ := hag c
    rw [h0, h1, h3, h5, h6]
    rfl

/-- The weight gradient of the projections: the kernel and its reference end with equal results. -/
theorem weight_grad : algebraic_Kernel2Ideal_Reference2Ideal (hKernel2Ideal := Cert.Kernel2Ideal.Gen.facts) (hReference2Ideal := Cert.Reference2Ideal.Gen.facts) := by
  intro m g m' g' _ hag
  refine ⟨fun c => (Cert.Kernel2Ideal.Gen.dats m 0 c).arrAt 2 Cert.Kernel2Ideal.cfg0.N,
    Cert.Kernel2Ideal.Value.run_blocks m g, (θ_run _ _ _).mono (fun _ h c => ⟨(h c).1.trans ?_, (h c).2⟩) (Cert.Reference2Ideal.Value.run m' g')⟩
  · show _ = (Cert.Kernel2Ideal.Gen.dats m 0 c).arrAt 2 Cert.Kernel2Ideal.cfg0.N
    rw [Cert.Kernel2Ideal.Value.final m c]
    obtain ⟨h0, h1, h2, h3, h4⟩ := hag c
    rw [h0, h1, h2, h3, h4]
    rfl

/-- The projection's columns of the chip itself: the kernel and its reference end with equal results. -/
theorem own : algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Value.kept m c,
    Cert.Kernel3Ideal.Value.run m g, (θ_run _ _ _).mono (fun _ h c => ⟨(h c).1.trans ?_, (h c).2⟩) (Cert.Reference3Ideal.Value.run m' g')⟩
  show _ = Cert.Kernel3Ideal.Value.kept m c
  rw [Cert.Kernel3Ideal.Value.result m c]
  obtain ⟨h0, h1, h2, h3, h4⟩ := hag c
  rw [h0, h1, h2, h3, h4]
  rfl

/-- The projection's columns of the two neighbouring chips: the kernel and its reference end with equal results. -/
theorem neighbours : algebraic_Kernel4Ideal_Reference4Ideal (hKernel4Ideal := Cert.Kernel4Ideal.Gen.facts) (hReference4Ideal := Cert.Reference4Ideal.Gen.facts) := by
  intro m g m' g' _ hag
  refine ⟨fun c => (Cert.Kernel4Ideal.Gen.dats m (Cert.Kernel4Ideal.Value.ok m) 0 c).arrAt 2 (Cert.Kernel4Ideal.Gen.cfgM m (Cert.Kernel4Ideal.Value.ok m)).N,
    Cert.Kernel4Ideal.Value.run m g, (θ_run _ _ _).mono (fun _ h c => ⟨(h c).1.trans ?_, (h c).2⟩) (Cert.Reference4Ideal.Value.run m' g')⟩
  show _ = (Cert.Kernel4Ideal.Gen.dats m (Cert.Kernel4Ideal.Value.ok m) 0 c).arrAt 2 (Cert.Kernel4Ideal.Gen.cfgM m (Cert.Kernel4Ideal.Value.ok m)).N
  rw [Cert.Kernel4Ideal.Value.result m c]
  obtain ⟨h0, h1, h2, h3, h4, h5⟩ := hag c
  rw [h0, h1, h2, h3, h4, h5]
  rfl

/-- The projection's columns of the diagonally opposite chip: the kernel and its reference end with equal results. -/
theorem diagonal : algebraic_Kernel5Ideal_Reference5Ideal (hKernel5Ideal := Cert.Kernel5Ideal.Gen.facts) (hReference5Ideal := Cert.Reference5Ideal.Gen.facts) := by
  intro m g m' g' _ hag
  refine ⟨fun c => (Cert.Kernel5Ideal.Gen.dats m (Cert.Kernel5Ideal.Value.ok m) 0 c).arrAt 2 (Cert.Kernel5Ideal.Gen.cfgM m (Cert.Kernel5Ideal.Value.ok m)).N,
    Cert.Kernel5Ideal.Value.run m g, (θ_run _ _ _).mono (fun _ h c => ⟨(h c).1.trans ?_, (h c).2⟩) (Cert.Reference5Ideal.Value.run m' g')⟩
  show _ = (Cert.Kernel5Ideal.Gen.dats m (Cert.Kernel5Ideal.Value.ok m) 0 c).arrAt 2 (Cert.Kernel5Ideal.Gen.cfgM m (Cert.Kernel5Ideal.Value.ok m)).N
  rw [Cert.Kernel5Ideal.Value.result m c]
  obtain ⟨h0, h1, h2, h3, h4, h5⟩ := hag c
  rw [h0, h1, h2, h3, h4, h5]
  rfl

/-- The optimiser's step for the shard of the projection's weight: the kernel and its reference end with equal results. -/
theorem adam_in : algebraic_Kernel6Ideal_Reference6Ideal (hKernel6Ideal := Cert.Kernel6Ideal.Gen.facts) (hReference6Ideal := Cert.Reference6Ideal.Gen.facts) := by
  intro m g m' g' _ hag
  refine ⟨fun c => (Cert.Kernel6Ideal.Gen.dats m (Cert.Kernel6Ideal.Value.ok m) 0 c).arrAt 7 (Cert.Kernel6Ideal.Gen.cfgM m (Cert.Kernel6Ideal.Value.ok m)).N, fun c => (Cert.Kernel6Ideal.Gen.dats m (Cert.Kernel6Ideal.Value.ok m) 0 c).arrAt 8 (Cert.Kernel6Ideal.Gen.cfgM m (Cert.Kernel6Ideal.Value.ok m)).N,
    fun c => (Cert.Kernel6Ideal.Gen.dats m (Cert.Kernel6Ideal.Value.ok m) 0 c).arrAt 9 (Cert.Kernel6Ideal.Gen.cfgM m (Cert.Kernel6Ideal.Value.ok m)).N, fun c => (Cert.Kernel6Ideal.Gen.dats m (Cert.Kernel6Ideal.Value.ok m) 0 c).arrAt 10 (Cert.Kernel6Ideal.Gen.cfgM m (Cert.Kernel6Ideal.Value.ok m)).N,
    Cert.Kernel6Ideal.Value.run m g, (θ_run _ _ _).mono (fun _ h c => ⟨(h c).1.trans ?_, (h c).2.1.trans ?_, (h c).2.2.1.trans ?_, (h c).2.2.2.1.trans ?_, (h c).2.2.2.2⟩) (Cert.Reference6Ideal.Value.run m' g')⟩
  · show _ = (Cert.Kernel6Ideal.Gen.dats m (Cert.Kernel6Ideal.Value.ok m) 0 c).arrAt 7 (Cert.Kernel6Ideal.Gen.cfgM m (Cert.Kernel6Ideal.Value.ok m)).N
    obtain ⟨h0, h1, h2, h3, h4⟩ := hag c
    obtain ⟨e0, e1, e2, e3, e4⟩ := Cert.Kernel6Ideal.Value.arguments m c
    rw [Cert.Kernel6Ideal.Value.final_7 m c]
    unfold Cert.Kernel6Ideal.Value.grad
    rw [e0, e1, h0, h1]
    rfl
  · show _ = (Cert.Kernel6Ideal.Gen.dats m (Cert.Kernel6Ideal.Value.ok m) 0 c).arrAt 8 (Cert.Kernel6Ideal.Gen.cfgM m (Cert.Kernel6Ideal.Value.ok m)).N
    obtain ⟨h0, h1, h2, h3, h4⟩ := hag c
    obtain ⟨e0, e1, e2, e3, e4⟩ := Cert.Kernel6Ideal.Value.arguments m c
    rw [Cert.Kernel6Ideal.Value.final_8 m c]
    unfold Cert.Kernel6Ideal.Value.grad
    rw [e0, e1, e2, e3, e4, h0, h1, h2, h3, h4]
    rfl
  · show _ = (Cert.Kernel6Ideal.Gen.dats m (Cert.Kernel6Ideal.Value.ok m) 0 c).arrAt 9 (Cert.Kernel6Ideal.Gen.cfgM m (Cert.Kernel6Ideal.Value.ok m)).N
    obtain ⟨h0, h1, h2, h3, h4⟩ := hag c
    obtain ⟨e0, e1, e2, e3, e4⟩ := Cert.Kernel6Ideal.Value.arguments m c
    rw [Cert.Kernel6Ideal.Value.final_9 m c]
    unfold Cert.Kernel6Ideal.Value.grad
    rw [e0, e1, e3, h0, h1, h3]
    rfl
  · show _ = (Cert.Kernel6Ideal.Gen.dats m (Cert.Kernel6Ideal.Value.ok m) 0 c).arrAt 10 (Cert.Kernel6Ideal.Gen.cfgM m (Cert.Kernel6Ideal.Value.ok m)).N
    obtain ⟨h0, h1, h2, h3, h4⟩ := hag c
    obtain ⟨e0, e1, e2, e3, e4⟩ := Cert.Kernel6Ideal.Value.arguments m c
    rw [Cert.Kernel6Ideal.Value.final_10 m c]
    unfold Cert.Kernel6Ideal.Value.grad
    rw [e0, e1, e4, h0, h1, h4]
    rfl

/-- The optimiser's step for the shard of the output product's weight: the kernel and its reference end with equal results. -/
theorem adam_out : algebraic_Kernel7Ideal_Reference7Ideal (hKernel7Ideal := Cert.Kernel7Ideal.Gen.facts) (hReference7Ideal := Cert.Reference7Ideal.Gen.facts) := by
  intro m g m' g' _ hag
  refine ⟨fun c => (Cert.Kernel7Ideal.Gen.dats m (Cert.Kernel7Ideal.Value.ok m) 0 c).arrAt 7 (Cert.Kernel7Ideal.Gen.cfgM m (Cert.Kernel7Ideal.Value.ok m)).N, fun c => (Cert.Kernel7Ideal.Gen.dats m (Cert.Kernel7Ideal.Value.ok m) 0 c).arrAt 8 (Cert.Kernel7Ideal.Gen.cfgM m (Cert.Kernel7Ideal.Value.ok m)).N,
    fun c => (Cert.Kernel7Ideal.Gen.dats m (Cert.Kernel7Ideal.Value.ok m) 0 c).arrAt 9 (Cert.Kernel7Ideal.Gen.cfgM m (Cert.Kernel7Ideal.Value.ok m)).N, fun c => (Cert.Kernel7Ideal.Gen.dats m (Cert.Kernel7Ideal.Value.ok m) 0 c).arrAt 10 (Cert.Kernel7Ideal.Gen.cfgM m (Cert.Kernel7Ideal.Value.ok m)).N,
    Cert.Kernel7Ideal.Value.run m g, (θ_run _ _ _).mono (fun _ h c => ⟨(h c).1.trans ?_, (h c).2.1.trans ?_, (h c).2.2.1.trans ?_, (h c).2.2.2.1.trans ?_, (h c).2.2.2.2⟩) (Cert.Reference7Ideal.Value.run m' g')⟩
  · show _ = (Cert.Kernel7Ideal.Gen.dats m (Cert.Kernel7Ideal.Value.ok m) 0 c).arrAt 7 (Cert.Kernel7Ideal.Gen.cfgM m (Cert.Kernel7Ideal.Value.ok m)).N
    obtain ⟨h0, h1, h2, h3, h4⟩ := hag c
    obtain ⟨e0, e1, e2, e3, e4⟩ := Cert.Kernel7Ideal.Value.arguments m c
    rw [Cert.Kernel7Ideal.Value.final_7 m c]
    unfold Cert.Kernel7Ideal.Value.grad
    rw [e0, e1, h0, h1]
    rfl
  · show _ = (Cert.Kernel7Ideal.Gen.dats m (Cert.Kernel7Ideal.Value.ok m) 0 c).arrAt 8 (Cert.Kernel7Ideal.Gen.cfgM m (Cert.Kernel7Ideal.Value.ok m)).N
    obtain ⟨h0, h1, h2, h3, h4⟩ := hag c
    obtain ⟨e0, e1, e2, e3, e4⟩ := Cert.Kernel7Ideal.Value.arguments m c
    rw [Cert.Kernel7Ideal.Value.final_8 m c]
    unfold Cert.Kernel7Ideal.Value.grad
    rw [e0, e1, e2, e3, e4, h0, h1, h2, h3, h4]
    rfl
  · show _ = (Cert.Kernel7Ideal.Gen.dats m (Cert.Kernel7Ideal.Value.ok m) 0 c).arrAt 9 (Cert.Kernel7Ideal.Gen.cfgM m (Cert.Kernel7Ideal.Value.ok m)).N
    obtain ⟨h0, h1, h2, h3, h4⟩ := hag c
    obtain ⟨e0, e1, e2, e3, e4⟩ := Cert.Kernel7Ideal.Value.arguments m c
    rw [Cert.Kernel7Ideal.Value.final_9 m c]
    unfold Cert.Kernel7Ideal.Value.grad
    rw [e0, e1, e3, h0, h1, h3]
    rfl
  · show _ = (Cert.Kernel7Ideal.Gen.dats m (Cert.Kernel7Ideal.Value.ok m) 0 c).arrAt 10 (Cert.Kernel7Ideal.Gen.cfgM m (Cert.Kernel7Ideal.Value.ok m)).N
    obtain ⟨h0, h1, h2, h3, h4⟩ := hag c
    obtain ⟨e0, e1, e2, e3, e4⟩ := Cert.Kernel7Ideal.Value.arguments m c
    rw [Cert.Kernel7Ideal.Value.final_10 m c]
    unfold Cert.Kernel7Ideal.Value.grad
    rw [e0, e1, e4, h0, h1, h4]
    rfl

/-- The optimiser's step for the shard of the modulation's weight: on finite conditioning and gradients the kernel and its
reference end with equal results. -/
theorem adam_ada : algebraic_Kernel8Ideal_Reference8Ideal_pre_finite_rows (hKernel8Ideal := Cert.Kernel8Ideal.Gen.facts) (hReference8Ideal := Cert.Reference8Ideal.Gen.facts) (hPre_finite_rows := Cert.Pre_finite_rows.facts) := by
  intro m g m' g' hpre hag
  have hfin : ∀ c, Cert.Kernel8Ideal.Value.Finite m c := fun c =>
    letI := Cert.Pre_finite_rows.facts
    Cert.Pre_finite_rows.reals _ _ _ _ _ (hpre c).1 (hpre c).2
  refine ⟨fun c => (Cert.Kernel8Ideal.Gen.dats m (Cert.Kernel8Ideal.Value.ok m) 0 c).arrAt 5 (Cert.Kernel8Ideal.Gen.cfgM m (Cert.Kernel8Ideal.Value.ok m)).N, fun c => (Cert.Kernel8Ideal.Gen.dats m (Cert.Kernel8Ideal.Value.ok m) 0 c).arrAt 6 (Cert.Kernel8Ideal.Gen.cfgM m (Cert.Kernel8Ideal.Value.ok m)).N,
    fun c => (Cert.Kernel8Ideal.Gen.dats m (Cert.Kernel8Ideal.Value.ok m) 0 c).arrAt 7 (Cert.Kernel8Ideal.Gen.cfgM m (Cert.Kernel8Ideal.Value.ok m)).N, fun c => (Cert.Kernel8Ideal.Gen.dats m (Cert.Kernel8Ideal.Value.ok m) 0 c).arrAt 8 (Cert.Kernel8Ideal.Gen.cfgM m (Cert.Kernel8Ideal.Value.ok m)).N,
    Cert.Kernel8Ideal.Value.run m g, (θ_run _ _ _).mono (fun _ h c => ⟨(h c).1.trans ?_, (h c).2.1.trans ?_, (h c).2.2.1.trans ?_, (h c).2.2.2.1.trans ?_, (h c).2.2.2.2⟩) (Cert.Reference8Ideal.Value.run m' g')⟩
  · show _ = (Cert.Kernel8Ideal.Gen.dats m (Cert.Kernel8Ideal.Value.ok m) 0 c).arrAt 5 (Cert.Kernel8Ideal.Gen.cfgM m (Cert.Kernel8Ideal.Value.ok m)).N
    obtain ⟨h0, h1, h2, h3, h4⟩ := hag c
    obtain ⟨e2, e3, e4⟩ := Cert.Kernel8Ideal.Value.arguments m c
    rw [Cert.Kernel8Ideal.Value.final_5 m c (hfin c)]
    unfold Cert.Kernel8Ideal.Value.grad Cert.Kernel8Ideal.Value.conditioning Cert.Kernel8Ideal.Value.gathered
    rw [h0, h1]
    rfl
  · show _ = (Cert.Kernel8Ideal.Gen.dats m (Cert.Kernel8Ideal.Value.ok m) 0 c).arrAt 6 (Cert.Kernel8Ideal.Gen.cfgM m (Cert.Kernel8Ideal.Value.ok m)).N
    obtain ⟨h0, h1, h2, h3, h4⟩ := hag c
    obtain ⟨e2, e3, e4⟩ := Cert.Kernel8Ideal.Value.arguments m c
    rw [Cert.Kernel8Ideal.Value.final_6 m c (hfin c)]
    unfold Cert.Kernel8Ideal.Value.grad Cert.Kernel8Ideal.Value.conditioning Cert.Kernel8Ideal.Value.gathered
    rw [e2, e3, e4, h0, h1, h2, h3, h4]
    rfl
  · show _ = (Cert.Kernel8Ideal.Gen.dats m (Cert.Kernel8Ideal.Value.ok m) 0 c).arrAt 7 (Cert.Kernel8Ideal.Gen.cfgM m (Cert.Kernel8Ideal.Value.ok m)).N
    obtain ⟨h0, h1, h2, h3, h4⟩ := hag c
    obtain ⟨e2, e3, e4⟩ := Cert.Kernel8Ideal.Value.arguments m c
    rw [Cert.Kernel8Ideal.Value.final_7 m c (hfin c)]
    unfold Cert.Kernel8Ideal.Value.grad Cert.Kernel8Ideal.Value.conditioning Cert.Kernel8Ideal.Value.gathered
    rw [e3, h0, h1, h3]
    rfl
  · show _ = (Cert.Kernel8Ideal.Gen.dats m (Cert.Kernel8Ideal.Value.ok m) 0 c).arrAt 8 (Cert.Kernel8Ideal.Gen.cfgM m (Cert.Kernel8Ideal.Value.ok m)).N
    obtain ⟨h0, h1, h2, h3, h4⟩ := hag c
    obtain ⟨e2, e3, e4⟩ := Cert.Kernel8Ideal.Value.arguments m c
    rw [Cert.Kernel8Ideal.Value.final_8 m c (hfin c)]
    unfold Cert.Kernel8Ideal.Value.grad Cert.Kernel8Ideal.Value.conditioning Cert.Kernel8Ideal.Value.gathered
    rw [e4, h0, h1, h4]
    rfl

/-- The adaptive norm: the kernel and its reference end with equal results. -/
theorem norm : algebraic_Kernel9Ideal_Reference9Ideal (hKernel9Ideal := Cert.Kernel9Ideal.Gen.facts) (hReference9Ideal := Cert.Reference9Ideal.Gen.facts) := by
  intro m g m' g' _ hag
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    Cert.Kernel9Ideal.Value.run_blocks m g, (θ_run _ _ _).mono (fun _ h c => ⟨(h c).1.trans ?_, (h c).2.1.trans ?_, (h c).2.2⟩) (Cert.Reference9Ideal.Value.run m' g')⟩
  · show _ = (Cert.Kernel9Ideal.Gen.dats m 0 c).arrAt 4 Cert.Kernel9Ideal.cfg0.N
    rw [Cert.Kernel9Ideal.Value.final_rows m c]
    unfold Cert.Kernel9Ideal.Value.rows
    obtain ⟨h0, h1, h2, h3⟩ := hag c
    rw [h0, h1, h2, h3]
    rfl
  · show _ = (Cert.Kernel9Ideal.Gen.dats m 0 c).arrAt 5 Cert.Kernel9Ideal.cfg0.N
    rw [Cert.Kernel9Ideal.Value.final_columns m c]
    unfold Cert.Kernel9Ideal.Value.rows
    obtain ⟨h0, h1, h2, h3⟩ := hag c
    rw [h0, h1, h2, h3]
    rfl

/-- The shards for the chip's other device: the kernel and its reference end with equal results. -/
theorem sibling : algebraic_Kernel10Ideal_Reference10Ideal (hKernel10Ideal := Cert.Kernel10Ideal.Gen.facts) (hReference10Ideal := Cert.Reference10Ideal.Gen.facts) := by
  intro m g m' g' _ hag
  refine ⟨fun c => (Cert.Kernel10Ideal.Gen.dats m (Cert.Kernel10Ideal.Value.ok m) 0 c).arrAt 1 (Cert.Kernel10Ideal.Gen.cfgM m (Cert.Kernel10Ideal.Value.ok m)).N,
    Cert.Kernel10Ideal.Value.run m g, (θ_run _ _ _).mono (fun _ h c => ⟨(h c).1.trans ?_, (h c).2⟩) (Cert.Reference10Ideal.Value.run m' g')⟩
  show _ = (Cert.Kernel10Ideal.Gen.dats m (Cert.Kernel10Ideal.Value.ok m) 0 c).arrAt 1 (Cert.Kernel10Ideal.Gen.cfgM m (Cert.Kernel10Ideal.Value.ok m)).N
  rw [Cert.Kernel10Ideal.Value.final m c, Cert.Kernel10Ideal.Value.argument m c, hag c]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite_rows.facts,
    fun m ρ _ => Cert.Kernel.Gen.frame m ρ,
    fun m ρ _ => Cert.KernelIdeal.Gen.frame m ρ,
    fun m ρ _ => (θ_run _ _ _).mono (fun r h => ⟨fun c => (h c).2.2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ (Cert.Kernel3.Value.ok m),
    fun m ρ _ => Cert.Kernel3Ideal.Gen.frame m ρ (Cert.Kernel3Ideal.Value.ok m),
    fun m ρ _ => (θ_run _ _ _).mono (fun r h => ⟨fun c => (h c).2, sem_eq_zero_of_no_sems (by decide) r.2⟩) (Cert.Reference3Ideal.Value.run m ρ),
    fun m ρ _ => Cert.Kernel4.Gen.frame m ρ (Cert.Kernel4.Value.ok m),
    fun m ρ _ => Cert.Kernel4Ideal.Gen.frame m ρ (Cert.Kernel4Ideal.Value.ok m),
    fun m ρ _ => (θ_run _ _ _).mono (fun r h => ⟨fun c => (h c).2, sem_eq_zero_of_no_sems (by decide) r.2⟩) (Cert.Reference4Ideal.Value.run m ρ),
    fun m ρ _ => Cert.Kernel5.Gen.frame m ρ (Cert.Kernel5.Value.ok m),
    fun m ρ _ => Cert.Kernel5Ideal.Gen.frame m ρ (Cert.Kernel5Ideal.Value.ok m),
    fun m ρ _ => (θ_run _ _ _).mono (fun r h => ⟨fun c => (h c).2, sem_eq_zero_of_no_sems (by decide) r.2⟩) (Cert.Reference5Ideal.Value.run m ρ),
    fun m ρ _ => Cert.Kernel6.Gen.frame m ρ (Cert.Kernel6.Value.ok m),
    fun m ρ _ => Cert.Kernel6Ideal.Gen.frame m ρ (Cert.Kernel6Ideal.Value.ok m),
    fun m ρ _ => (θ_run _ _ _).mono (fun r h => ⟨fun c => (h c).2.2.2.2, sem_eq_zero_of_no_sems (by decide) r.2⟩) (Cert.Reference6Ideal.Value.run m ρ),
    fun m ρ _ => Cert.Kernel7.Gen.frame m ρ (Cert.Kernel7.Value.ok m),
    fun m ρ _ => Cert.Kernel7Ideal.Gen.frame m ρ (Cert.Kernel7Ideal.Value.ok m),
    fun m ρ _ => (θ_run _ _ _).mono (fun r h => ⟨fun c => (h c).2.2.2.2, sem_eq_zero_of_no_sems (by decide) r.2⟩) (Cert.Reference7Ideal.Value.run m ρ),
    fun m ρ _ => Cert.Kernel8.Gen.frame m ρ (Cert.Kernel8.Value.ok m),
    fun m ρ _ => Cert.Kernel8Ideal.Gen.frame m ρ (Cert.Kernel8Ideal.Value.ok m),
    fun m ρ _ => Cert.Kernel8Ideal.Gen.frame m ρ (Cert.Kernel8Ideal.Value.ok m),
    fun m ρ _ => (θ_run _ _ _).mono (fun r h => ⟨fun c => (h c).2.2.2.2, sem_eq_zero_of_no_sems (by decide) r.2⟩) (Cert.Reference8Ideal.Value.run m ρ),
    fun m ρ _ => (θ_run _ _ _).mono (fun r h => ⟨fun c => (h c).2.2.2.2, sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run _ _ _).mono (fun r h => ⟨fun c => (h c).2.2, sem_eq_zero_of_no_sems (by decide) r.2⟩) (Cert.Reference9Ideal.Value.run m ρ),
    fun m ρ _ => Cert.Kernel10.Gen.frame m ρ (Cert.Kernel10.Value.ok m),
    fun m ρ _ => Cert.Kernel10Ideal.Gen.frame m ρ (Cert.Kernel10Ideal.Value.ok m),
    fun m ρ _ => (θ_run _ _ _).mono (fun r h => ⟨fun c => (h c).2, sem_eq_zero_of_no_sems (by decide) r.2⟩) (Cert.Reference10Ideal.Value.run m ρ),
    trivial, input_grad, trivial, weight_grad, trivial, own, trivial, neighbours, trivial, diagonal, trivial, adam_in, trivial, adam_out, trivial, adam_ada, trivial, norm, trivial, sibling⟩

end Cert.Proof

end
